-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sigma_nonzero [hPre_sigma_nonzero : Cert.Pre_sigma_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_sigma_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sigma_nonzero [hPre_sigma_nonzero : Cert.Pre_sigma_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sigma_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sigma_nonzero [hKernelIdeal : Cert.KernelIdeal.Facts] [hPre_sigma_nonzero : Cert.Pre_sigma_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sigma_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sigma_nonzero [hReferenceIdeal : Cert.ReferenceIdeal.Facts] [hPre_sigma_nonzero : Cert.Pre_sigma_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sigma_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sigma_nonzero [hKernelIdeal : Cert.KernelIdeal.Facts] [hReferenceIdeal : Cert.ReferenceIdeal.Facts] [hPre_sigma_nonzero : Cert.Pre_sigma_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sigma_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sigma_nonzero : Cert.Pre_sigma_nonzero.Facts),
    quiescent_Kernel (hKernel := hKernel)
    ∧ quiescent_KernelIdeal (hKernelIdeal := hKernelIdeal)
    ∧ quiescent_KernelIdeal_pre_sigma_nonzero (hKernelIdeal := hKernelIdeal) (hPre_sigma_nonzero := hPre_sigma_nonzero)
    ∧ quiescent_ReferenceIdeal (hReferenceIdeal := hReferenceIdeal)
    ∧ quiescent_ReferenceIdeal_pre_sigma_nonzero (hReferenceIdeal := hReferenceIdeal) (hPre_sigma_nonzero := hPre_sigma_nonzero)
    ∧ preserves_Kernel_KernelIdeal
    ∧ algebraic_KernelIdeal_ReferenceIdeal_pre_sigma_nonzero (hKernelIdeal := hKernelIdeal) (hReferenceIdeal := hReferenceIdeal) (hPre_sigma_nonzero := hPre_sigma_nonzero)
-- ==== Pre_sigma_nonzero.lean ====
abbrev S3 : Shape := ⟨1, ![3]⟩
abbrev S65536x12 : Shape := ⟨2, ![65536, 12]⟩
abbrev S17x262144x3 : Shape := ⟨3, ![17, 262144, 3]⟩
abbrev S16x65536 : Shape := ⟨2, ![16, 65536]⟩
abbrev S_ : Shape := ⟨0, ![]⟩

class Facts : Prop where
  bcast_S_S3 : S_.BroadcastsInDim S3 (![] : Fin 0 → Fin S3.rank)

variable [Facts]

def fn {F : FTy → Type} [FloatOps F] (main_arg0 : FVec F S3 .f32) (main_arg1 : FVec F S3 .f32) (main_arg2 : FVec F S65536x12 .f32) (main_arg3 : FVec F S17x262144x3 .f32) (main_arg4 : FVec F S16x65536 .f32) : IVec S3 1 :=
  let main_cst : FVec F S_ .f32 := constant S_ .f32 0x00000000#32
  let main_v0 : FVec F S3 .f32 := broadcastInDim S3 ![] bcast_S_S3 main_cst
  let main_v1 : IVec S3 1 := cmpf .une main_arg1 main_v0
  main_v1
-- ==== Kernel.lean ====
abbrev S3 : Shape := ⟨1, ![3]⟩
abbrev S65536x12 : Shape := ⟨2, ![65536, 12]⟩
abbrev S17x262144x3 : Shape := ⟨3, ![17, 262144, 3]⟩
abbrev S16x65536 : Shape := ⟨2, ![16, 65536]⟩
abbrev S3x17x262144 : Shape := ⟨3, ![3, 17, 262144]⟩
abbrev S3x17x2048x128 : Shape := ⟨4, ![3, 17, 2048, 128]⟩
abbrev S16x65536x1 : Shape := ⟨3, ![16, 65536, 1]⟩
abbrev S16x65536x4 : Shape := ⟨3, ![16, 65536, 4]⟩
abbrev S16x2048x128 : Shape := ⟨3, ![16, 2048, 128]⟩
abbrev S1x3 : Shape := ⟨2, ![1, 3]⟩
abbrev S3x2048x128 : Shape := ⟨3, ![3, 2048, 128]⟩
abbrev S3x1x2048x128 : Shape := ⟨4, ![3, 1, 2048, 128]⟩
abbrev S1x2048x128 : Shape := ⟨3, ![1, 2048, 128]⟩
abbrev S2x128 : Shape := ⟨2, ![2, 128]⟩
abbrev S1x125 : Shape := ⟨2, ![1, 125]⟩
abbrev S1x128 : Shape := ⟨2, ![1, 128]⟩
abbrev S1x1 : Shape := ⟨2, ![1, 1]⟩
abbrev S1x1x2048x128 : Shape := ⟨4, ![1, 1, 2048, 128]⟩
abbrev S2048x128 : Shape := ⟨2, ![2048, 128]⟩
abbrev S2048x127 : Shape := ⟨2, ![2048, 127]⟩
abbrev S2048x1 : Shape := ⟨2, ![2048, 1]⟩
abbrev S2048x126 : Shape := ⟨2, ![2048, 126]⟩
abbrev S2048x2 : Shape := ⟨2, ![2048, 2]⟩
abbrev S2048x125 : Shape := ⟨2, ![2048, 125]⟩
abbrev S2048x3 : Shape := ⟨2, ![2048, 3]⟩
abbrev S1 : Shape := ⟨1, ![1]⟩
abbrev S1x1x1 : Shape := ⟨3, ![1, 1, 1]⟩
abbrev S3x262144 : Shape := ⟨2, ![3, 262144]⟩
abbrev S262144x3 : Shape := ⟨2, ![262144, 3]⟩

abbrev nBuf : Space → Nat
  | .hbm => 16
  | .vmem => 8
  | .smem => 0
  | _ => 0

abbrev bufTy : (tb : Table) → Fin (tcTables nBuf tb) → BufTy
  | .hbm, ⟨0, _⟩ => ⟨S3, .f32⟩
  | .hbm, ⟨1, _⟩ => ⟨S3, .f32⟩
  | .hbm, ⟨2, _⟩ => ⟨S65536x12, .f32⟩
  | .hbm, ⟨3, _⟩ => ⟨S17x262144x3, .f32⟩
  | .hbm, ⟨4, _⟩ => ⟨S16x65536, .f32⟩
  | .hbm, ⟨5, _⟩ => ⟨S3x17x262144, .f32⟩
  | .hbm, ⟨6, _⟩ => ⟨S3x17x2048x128, .f32⟩
  | .hbm, ⟨7, _⟩ => ⟨S16x65536x1, .f32⟩
  | .hbm, ⟨8, _⟩ => ⟨S16x65536x4, .f32⟩
  | .hbm, ⟨9, _⟩ => ⟨S16x2048x128, .f32⟩
  | .hbm, ⟨10, _⟩ => ⟨S1x3, .f32⟩
  | .hbm, ⟨11, _⟩ => ⟨S1x3, .f32⟩
  | .hbm, ⟨12, _⟩ => ⟨S3x2048x128, .f32⟩
  | .hbm, ⟨13, _⟩ => ⟨S3x262144, .f32⟩
  | .hbm, ⟨14, _⟩ => ⟨S262144x3, .f32⟩
  | .hbm, ⟨15, _⟩ => ⟨S65536x12, .f32⟩
  | .local _ .vmem, ⟨0, _⟩ => ⟨S1x3, .f32⟩
  | .local _ .vmem, ⟨1, _⟩ => ⟨S1x3, .f32⟩
  | .local _ .vmem, ⟨2, _⟩ => ⟨S3x1x2048x128, .f32⟩
  | .local _ .vmem, ⟨3, _⟩ => ⟨S3x1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S3x2048x128, .f32⟩
  | .local _ .vmem, ⟨7, _⟩ => ⟨S2x128, .f32⟩
  | _, _ => ⟨S3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c0_i32_22 : BitVec 32 := 0#32
  let v27 : BitVec 1 := Scalar.cmpi .eq arg0 c0_i32_22
  let v28 : BitVec 32 := Scalar.extui v27
  let c0_i32_23 : BitVec 32 := 0#32
  let v29 : BitVec 1 := Scalar.cmpi .ne v28 c0_i32_23
  v29

def k0_cond3 (i : grid0.Coords) : BitVec 1 :=
  let arg0 : BitVec 32 := BitVec.ofNat 32 (i 0).val
  let c0_i32_24 : BitVec 32 := 0#32
  let v30 : BitVec 1 := Scalar.cmpi .sgt arg0 c0_i32_24
  let v31 : BitVec 32 := Scalar.extui v30
  let c0_i32_25 : BitVec 32 := 0#32
  let v32 : BitVec 1 := Scalar.cmpi .ne v31 c0_i32_25
  v32

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S3 : Shape := ⟨1, ![3]⟩
abbrev S65536x12 : Shape := ⟨2, ![65536, 12]⟩
abbrev S17x262144x3 : Shape := ⟨3, ![17, 262144, 3]⟩
abbrev S16x65536 : Shape := ⟨2, ![16, 65536]⟩
abbrev S1x262144x3 : Shape := ⟨3, ![1, 262144, 3]⟩
abbrev S262144x3 : Shape := ⟨2, ![262144, 3]⟩
abbrev S1x3 : Shape := ⟨2, ![1, 3]⟩
abbrev S_ : Shape := ⟨0, ![]⟩
abbrev S65536 : Shape := ⟨1, ![65536]⟩
abbrev S65536x1 : Shape := ⟨2, ![65536, 1]⟩
abbrev S1 : Shape := ⟨1, ![1]⟩
abbrev S1x65536 : Shape := ⟨2, ![1, 65536]⟩

abbrev nBuf : Space → Nat
  | .hbm => 431
  | .vmem => 0
  | .smem => 0
  | _ => 0

abbrev hbmTy0_0 (i : Nat) : BufTy := match i % 128 with
  | 0 => ⟨S3, .f32⟩
  | 1 => ⟨S3, .f32⟩
  | 2 => ⟨S65536x12, .f32⟩
  | 3 => ⟨S17x262144x3, .f32⟩
  | 4 => ⟨S16x65536, .f32⟩
  | 5 => ⟨S1x262144x3, .f32⟩
  | 6 => ⟨S262144x3, .f32⟩
  | 7 => ⟨S1x3, .f32⟩
  | 8 => ⟨S262144x3, .f32⟩
  | 9 => ⟨S262144x3, .f32⟩
  | 10 => ⟨S1x3, .f32⟩
  | 11 => ⟨S262144x3, .f32⟩
  | 12 => ⟨S262144x3, .f32⟩
  | 13 => ⟨S65536x12, .f32⟩
  | 14 => ⟨S_, .i32⟩
  | 15 => ⟨S_, .i32⟩
  | 16 => ⟨S17x262144x3, .f32⟩
  | 17 => ⟨S16x65536, .f32⟩
  | 18 => ⟨S_, .i32⟩
  | 19 => ⟨S_, .i32⟩
  | 20 => ⟨S3, .f32⟩
  | 21 => ⟨S3, .f32⟩
  | 22 => ⟨S65536x12, .f32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S1x262144x3, .f32⟩
  | 52 => ⟨S262144x3, .f32⟩
  | 53 => ⟨S1x3, .f32⟩
  | 54 => ⟨S262144x3, .f32⟩
  | 55 => ⟨S262144x3, .f32⟩
  | 56 => ⟨S1x3, .f32⟩
  | 57 => ⟨S262144x3, .f32⟩
  | 58 => ⟨S262144x3, .f32⟩
  | 59 => ⟨S65536x12, .f32⟩
  | 60 => ⟨S_, .f32⟩
  | 61 => ⟨S65536, .f32⟩
  | 62 => ⟨S65536x1, .f32⟩
  | 63 => ⟨S65536, .f32⟩
  | 64 => ⟨S1, .f32⟩
  | 65 => ⟨S_, .f32⟩
  | 66 => ⟨S1, .f32⟩
  | 67 => ⟨S_, .f32⟩
  | 68 => ⟨S65536, .f32⟩
  | 69 => ⟨S65536, .f32⟩
  | 70 => ⟨S65536, .f32⟩
  | 71 => ⟨S65536, .f32⟩
  | 72 => ⟨S_, .f32⟩
  | 73 => ⟨S_, .f32⟩
  | 74 => ⟨S_, .f32⟩
  | 75 => ⟨S65536, .f32⟩
  | 76 => ⟨S65536, .f32⟩
  | 77 => ⟨S65536, .f32⟩
  | 78 => ⟨S_, .f32⟩
  | 79 => ⟨S_, .f32⟩
  | 80 => ⟨S65536, .f32⟩
  | 81 => ⟨S65536, .f32⟩
  | 82 => ⟨S65536, .f32⟩
  | 83 => ⟨S65536x1, .f32⟩
  | 84 => ⟨S65536, .f32⟩
  | 85 => ⟨S1, .f32⟩
  | 86 => ⟨S_, .f32⟩
  | 87 => ⟨S1, .f32⟩
  | 88 => ⟨S_, .f32⟩
  | 89 => ⟨S65536, .f32⟩
  | 90 => ⟨S65536, .f32⟩
  | 91 => ⟨S65536, .f32⟩
  | 92 => ⟨S65536, .f32⟩
  | 93 => ⟨S_, .f32⟩
  | 94 => ⟨S_, .f32⟩
  | 95 => ⟨S_, .f32⟩
  | 96 => ⟨S65536, .f32⟩
  | 97 => ⟨S65536, .f32⟩
  | 98 => ⟨S65536, .f32⟩
  | 99 => ⟨S_, .f32⟩
  | 100 => ⟨S_, .f32⟩
  | 101 => ⟨S65536, .f32⟩
  | 102 => ⟨S65536, .f32⟩
  | 103 => ⟨S65536, .f32⟩
  | 104 => ⟨S65536x1, .f32⟩
  | 105 => ⟨S65536, .f32⟩
  | 106 => ⟨S1, .f32⟩
  | 107 => ⟨S_, .f32⟩
  | 108 => ⟨S1, .f32⟩
  | 109 => ⟨S_, .f32⟩
  | 110 => ⟨S65536, .f32⟩
  | 111 => ⟨S65536, .f32⟩
  | 112 => ⟨S65536, .f32⟩
  | 113 => ⟨S65536, .f32⟩
  | 114 => ⟨S_, .f32⟩
  | 115 => ⟨S_, .f32⟩
  | 116 => ⟨S_, .f32⟩
  | 117 => ⟨S65536, .f32⟩
  | 118 => ⟨S65536, .f32⟩
  | 119 => ⟨S65536, .f32⟩
  | 120 => ⟨S_, .f32⟩
  | 121 => ⟨S_, .f32⟩
  | 122 => ⟨S65536, .f32⟩
  | 123 => ⟨S65536, .f32⟩
  | 124 => ⟨S65536, .f32⟩
  | 125 => ⟨S65536x12, .f32⟩
  | 126 => ⟨S65536x12, .f32⟩
  | 127 => ⟨S_, .f32⟩
  | _ => ⟨S3, .f32⟩

abbrev hbmTy0_1 (i : Nat) : BufTy := match i % 128 with
  | 0 => ⟨S65536x12, .f32⟩
  | 1 => ⟨S65536x12, .f32⟩
  | 2 => ⟨S65536x12, .f32⟩
  | 3 => ⟨S_, .f32⟩
  | 4 => ⟨S65536x12, .f32⟩
  | 5 => ⟨S65536x12, .f32⟩
  | 6 => ⟨S65536x1, .f32⟩
  | 7 => ⟨S65536, .f32⟩
  | 8 => ⟨S65536x1, .f32⟩
  | 9 => ⟨S65536, .f32⟩
  | 10 => ⟨S65536, .f32⟩
  | 11 => ⟨S65536x1, .f32⟩
  | 12 => ⟨S65536, .f32⟩
  | 13 => ⟨S65536, .f32⟩
  | 14 => ⟨S65536x1, .f32⟩
  | 15 => ⟨S65536, .f32⟩
  | 16 => ⟨S65536, .f32⟩
  | 17 => ⟨S65536x1, .f32⟩
  | 18 => ⟨S65536, .f32⟩
  | 19 => ⟨S65536, .f32⟩
  | 20 => ⟨S65536x1, .f32⟩
  | 21 => ⟨S65536, .f32⟩
  | 22 => ⟨S65536, .f32⟩
  | 23 => ⟨S65536x1, .f32⟩
  | 24 => ⟨S65536, .f32⟩
  | 25 => ⟨S65536, .f32⟩
  | 26 => ⟨S65536x1, .f32⟩
  | 27 => ⟨S65536, .f32⟩
  | 28 => ⟨S65536, .f32⟩
  | 29 => ⟨S65536x1, .f32⟩
  | 30 => ⟨S65536, .f32⟩
  | 31 => ⟨S65536, .f32⟩
  | 32 => ⟨S65536x1, .f32⟩
  | 33 => ⟨S65536, .f32⟩
  | 34 => ⟨S65536, .f32⟩
  | 35 => ⟨S65536x1, .f32⟩
  | 36 => ⟨S65536, .f32⟩
  | 37 => ⟨S65536, .f32⟩
  | 38 => ⟨S65536x1, .f32⟩
  | 39 => ⟨S65536, .f32⟩
  | 40 => ⟨S65536, .f32⟩
  | 41 => ⟨S65536, .f32⟩
  | 42 => ⟨S_, .f32⟩
  | 43 => ⟨S_, .f32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S1x65536, .f32⟩
  | 59 => ⟨S65536, .f32⟩
  | 60 => ⟨S65536, .f32⟩
  | 61 => ⟨S65536, .f32⟩
  | 62 => ⟨S65536, .f32⟩
  | 63 => ⟨S65536, .i1⟩
  | 64 => ⟨S65536x1, .i1⟩
  | 65 => ⟨S65536x12, .i1⟩
  | 66 => ⟨S65536x12, .f32⟩
  | 67 => ⟨S_, .f32⟩
  | 68 => ⟨S65536, .f32⟩
  | 69 => ⟨S65536x1, .f32⟩
  | 70 => ⟨S65536, .f32⟩
  | 71 => ⟨S1, .f32⟩
  | 72 => ⟨S_, .f32⟩
  | 73 => ⟨S1, .f32⟩
  | 74 => ⟨S_, .f32⟩
  | 75 => ⟨S65536, .f32⟩
  | 76 => ⟨S65536, .f32⟩
  | 77 => ⟨S65536, .f32⟩
  | 78 => ⟨S_, .f32⟩
  | 79 => ⟨S65536, .f32⟩
  | 80 => ⟨S65536, .f32⟩
  | 81 => ⟨S65536, .f32⟩
  | 82 => ⟨S_, .f32⟩
  | 83 => ⟨S_, .f32⟩
  | 84 => ⟨S_, .f32⟩
  | 85 => ⟨S_, .f32⟩
  | 86 => ⟨S_, .f32⟩
  | 87 => ⟨S65536, .f32⟩
  | 88 => ⟨S65536, .f32⟩
  | 89 => ⟨S_, .f32⟩
  | 90 => ⟨S_, .f32⟩
  | 91 => ⟨S_, .f32⟩
  | 92 => ⟨S65536, .f32⟩
  | 93 => ⟨S_, .f32⟩
  | 94 => ⟨S_, .f32⟩
  | 95 => ⟨S65536, .f32⟩
  | 96 => ⟨S65536, .f32⟩
  | 97 => ⟨S_, .f32⟩
  | 98 => ⟨S_, .f32⟩
  | 99 => ⟨S_, .f32⟩
  | 100 => ⟨S65536, .f32⟩
  | 101 => ⟨S65536x1, .f32⟩
  | 102 => ⟨S65536, .f32⟩
  | 103 => ⟨S1, .f32⟩
  | 104 => ⟨S_, .f32⟩
  | 105 => ⟨S1, .f32⟩
  | 106 => ⟨S_, .f32⟩
  | 107 => ⟨S65536, .f32⟩
  | 108 => ⟨S65536, .f32⟩
  | 109 => ⟨S65536, .f32⟩
  | 110 => ⟨S_, .f32⟩
  | 111 => ⟨S65536, .f32⟩
  | 112 => ⟨S65536, .f32⟩
  | 113 => ⟨S65536, .f32⟩
  | 114 => ⟨S_, .f32⟩
  | 115 => ⟨S_, .f32⟩
  | 116 => ⟨S_, .f32⟩
  | 117 => ⟨S_, .f32⟩
  | 118 => ⟨S_, .f32⟩
  | 119 => ⟨S65536, .f32⟩
  | 120 => ⟨S65536, .f32⟩
  | 121 => ⟨S_, .f32⟩
  | 122 => ⟨S_, .f32⟩
  | 123 => ⟨S_, .f32⟩
  | 124 => ⟨S65536, .f32⟩
  | 125 => ⟨S_, .f32⟩
  | 126 => ⟨S_, .f32⟩
  | 127 => ⟨S65536, .f32⟩
  | _ => ⟨S3, .f32⟩

abbrev hbmTy0_2 (i : Nat) : BufTy := match i % 128 with
  | 0 => ⟨S65536, .f32⟩
  | 1 => ⟨S_, .f32⟩
  | 2 => ⟨S_, .f32⟩
  | 3 => ⟨S_, .f32⟩
  | 4 => ⟨S65536, .f32⟩
  | 5 => ⟨S65536x1, .f32⟩
  | 6 => ⟨S65536, .f32⟩
  | 7 => ⟨S1, .f32⟩
  | 8 => ⟨S_, .f32⟩
  | 9 => ⟨S1, .f32⟩
  | 10 => ⟨S_, .f32⟩
  | 11 => ⟨S65536, .f32⟩
  | 12 => ⟨S65536, .f32⟩
  | 13 => ⟨S65536, .f32⟩
  | 14 => ⟨S_, .f32⟩
  | 15 => ⟨S65536, .f32⟩
  | 16 => ⟨S65536, .f32⟩
  | 17 => ⟨S65536, .f32⟩
  | 18 => ⟨S_, .f32⟩
  | 19 => ⟨S_, .f32⟩
  | 20 => ⟨S_, .f32⟩
  | 21 => ⟨S_, .f32⟩
  | 22 => ⟨S_, .f32⟩
  | 23 => ⟨S65536, .f32⟩
  | 24 => ⟨S65536, .f32⟩
  | 25 => ⟨S_, .f32⟩
  | 26 => ⟨S_, .f32⟩
  | 27 => ⟨S_, .f32⟩
  | 28 => ⟨S65536, .f32⟩
  | 29 => ⟨S_, .f32⟩
  | 30 => ⟨S_, .f32⟩
  | 31 => ⟨S65536, .f32⟩
  | 32 => ⟨S65536, .f32⟩
  | 33 => ⟨S_, .f32⟩
  | 34 => ⟨S_, .f32⟩
  | 35 => ⟨S_, .f32⟩
  | 36 => ⟨S65536, .f32⟩
  | 37 => ⟨S65536, .f32⟩
  | 38 => ⟨S65536, .f32⟩
  | 39 => ⟨S_, .f32⟩
  | 40 => ⟨S65536, .f32⟩
  | 41 => ⟨S65536, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S65536, .f32⟩
  | 50 => ⟨S65536, .f32⟩
  | 51 => ⟨S65536, .f32⟩
  | 52 => ⟨S65536, .f32⟩
  | 53 => ⟨S65536, .f32⟩
  | 54 => ⟨S65536, .f32⟩
  | 55 => ⟨S65536, .f32⟩
  | 56 => ⟨S_, .f32⟩
  | 57 => ⟨S_, .f32⟩
  | 58 => ⟨S_, .f32⟩
  | 59 => ⟨S65536, .f32⟩
  | 60 => ⟨S65536, .f32⟩
  | 61 => ⟨S_, .f32⟩
  | 62 => ⟨S_, .f32⟩
  | 63 => ⟨S65536, .f32⟩
  | 64 => ⟨S65536, .f32⟩
  | 65 => ⟨S65536, .f32⟩
  | 66 => ⟨S65536, .f32⟩
  | 67 => ⟨S_, .f32⟩
  | 68 => ⟨S_, .f32⟩
  | 69 => ⟨S_, .f32⟩
  | 70 => ⟨S65536, .f32⟩
  | 71 => ⟨S65536, .f32⟩
  | 72 => ⟨S_, .f32⟩
  | 73 => ⟨S_, .f32⟩
  | 74 => ⟨S_, .f32⟩
  | 75 => ⟨S_, .f32⟩
  | 76 => ⟨S65536, .f32⟩
  | 77 => ⟨S65536, .f32⟩
  | 78 => ⟨S_, .f32⟩
  | 79 => ⟨S_, .f32⟩
  | 80 => ⟨S_, .f32⟩
  | 81 => ⟨S1, .f32⟩
  | 82 => ⟨S_, .f32⟩
  | 83 => ⟨S3, .f32⟩
  | 84 => ⟨S1, .f32⟩
  | 85 => ⟨S_, .f32⟩
  | 86 => ⟨S3, .f32⟩
  | 87 => ⟨S65536, .f32⟩
  | 88 => ⟨S65536, .f32⟩
  | 89 => ⟨S65536, .f32⟩
  | 90 => ⟨S65536, .f32⟩
  | 91 => ⟨S65536, .f32⟩
  | 92 => ⟨S_, .f32⟩
  | 93 => ⟨S_, .f32⟩
  | 94 => ⟨S_, .f32⟩
  | 95 => ⟨S65536, .f32⟩
  | 96 => ⟨S65536, .f32⟩
  | 97 => ⟨S_, .f32⟩
  | 98 => ⟨S_, .f32⟩
  | 99 => ⟨S65536, .f32⟩
  | 100 => ⟨S65536, .f32⟩
  | 101 => ⟨S65536, .f32⟩
  | 102 => ⟨S65536, .f32⟩
  | 103 => ⟨S_, .f32⟩
  | 104 => ⟨S_, .f32⟩
  | 105 => ⟨S_, .f32⟩
  | 106 => ⟨S65536, .f32⟩
  | 107 => ⟨S65536, .f32⟩
  | 108 => ⟨S_, .f32⟩
  | 109 => ⟨S_, .f32⟩
  | 110 => ⟨S_, .f32⟩
  | 111 => ⟨S_, .f32⟩
  | 112 => ⟨S65536, .f32⟩
  | 113 => ⟨S65536, .f32⟩
  | 114 => ⟨S_, .f32⟩
  | 115 => ⟨S_, .f32⟩
  | 116 => ⟨S_, .f32⟩
  | 117 => ⟨S1, .f32⟩
  | 118 => ⟨S_, .f32⟩
  | 119 => ⟨S3, .f32⟩
  | 120 => ⟨S3, .f32⟩
  | 121 => ⟨S1, .f32⟩
  | 122 => ⟨S_, .f32⟩
  | 123 => ⟨S3, .f32⟩
  | 124 => ⟨S3, .f32⟩
  | 125 => ⟨S65536, .f32⟩
  | 126 => ⟨S65536, .f32⟩
  | 127 => ⟨S65536, .f32⟩
  | _ => ⟨S3, .f32⟩

abbrev hbmTy0_3 (i : Nat) : BufTy := match i % 128 with
  | 0 => ⟨S65536, .f32⟩
  | 1 => ⟨S_, .f32⟩
  | 2 => ⟨S_, .f32⟩
  | 3 => ⟨S_, .f32⟩
  | 4 => ⟨S65536, .f32⟩
  | 5 => ⟨S65536, .f32⟩
  | 6 => ⟨S_, .f32⟩
  | 7 => ⟨S_, .f32⟩
  | 8 => ⟨S65536, .f32⟩
  | 9 => ⟨S65536, .f32⟩
  | 10 => ⟨S65536, .f32⟩
  | 11 => ⟨S65536, .f32⟩
  | 12 => ⟨S_, .f32⟩
  | 13 => ⟨S_, .f32⟩
  | 14 => ⟨S_, .f32⟩
  | 15 => ⟨S65536, .f32⟩
  | 16 => ⟨S65536, .f32⟩
  | 17 => ⟨S_, .f32⟩
  | 18 => ⟨S_, .f32⟩
  | 19 => ⟨S_, .f32⟩
  | 20 => ⟨S_, .f32⟩
  | 21 => ⟨S65536, .f32⟩
  | 22 => ⟨S65536, .f32⟩
  | 23 => ⟨S_, .f32⟩
  | 24 => ⟨S_, .f32⟩
  | 25 => ⟨S_, .f32⟩
  | 26 => ⟨S1, .f32⟩
  | 27 => ⟨S_, .f32⟩
  | 28 => ⟨S3, .f32⟩
  | 29 => ⟨S3, .f32⟩
  | 30 => ⟨S1, .f32⟩
  | 31 => ⟨S_, .f32⟩
  | 32 => ⟨S3, .f32⟩
  | 33 => ⟨S3, .f32⟩
  | 34 => ⟨S_, .f32⟩
  | 35 => ⟨S3, .f32⟩
  | 36 => ⟨S3, .f32⟩
  | 37 => ⟨S3, .f32⟩
  | 38 => ⟨S_, .f32⟩
  | 39 => ⟨S3, .f32⟩
  | 40 => ⟨S3, .f32⟩
  | 41 => ⟨S3, .f32⟩
  | 42 => ⟨S_, .f32⟩
  | 43 => ⟨S3, .f32⟩
  | 44 => ⟨S3, .f32⟩
  | 45 => ⟨S_, .i32⟩
  | 46 => ⟨S_, .i32⟩
  | _ => ⟨S3, .f32⟩

abbrev hbmTy (i : Nat) : BufTy := match i / 128 with
  | 0 => hbmTy0_0 i
  | 1 => hbmTy0_1 i
  | 2 => hbmTy0_2 i
  | 3 => hbmTy0_3 i
  | _ => ⟨S3, .f32⟩

abbrev bufTy : (tb : Table) → Fin (tcTables nBuf tb) → BufTy
  | .hbm, ⟨i, _⟩ => hbmTy i
  | _, _ => ⟨S3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_c_0 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_while0c_c_7 : Ref sig .tc := ⟨.hbm, 23, rfl⟩
abbrev main_while0c_v10 : Ref sig .tc := ⟨.hbm, 24, rfl⟩
abbrev main_while0b_c_7 : Ref sig .tc := ⟨.hbm, 25, rfl⟩
abbrev main_while0b_v10 : Ref sig .tc := ⟨.hbm, 26, rfl⟩
abbrev main_while0b_c_8 : Ref sig .tc := ⟨.hbm, 27, rfl⟩
abbrev main_while0b_v11 : Ref sig .tc := ⟨.hbm, 28, rfl⟩
abbrev main_while0b_v12 : Ref sig .tc := ⟨.hbm, 29, rfl⟩
abbrev main_while0b_c_9 : Ref sig .tc := ⟨.hbm, 30, rfl⟩
abbrev main_while0b_v13 : Ref sig .tc := ⟨.hbm, 31, rfl⟩
abbrev main_while0b_c_10 : Ref sig .tc := ⟨.hbm, 32, rfl⟩
abbrev main_while0b_v14 : Ref sig .tc := ⟨.hbm, 33, rfl⟩
abbrev main_while0b_v15 : Ref sig .tc := ⟨.hbm, 34, rfl⟩
abbrev main_while0b_c_11 : Ref sig .tc := ⟨.hbm, 35, rfl⟩
abbrev main_while0b_c_12 : Ref sig .tc := ⟨.hbm, 36, rfl⟩
abbrev main_while0b_v16 : Ref sig .tc := ⟨.hbm, 37, rfl⟩
abbrev main_while0b_c_13 : Ref sig .tc := ⟨.hbm, 38, rfl⟩
abbrev main_while0b_c_14 : Ref sig .tc := ⟨.hbm, 39, rfl⟩
abbrev main_while0b_v17 : Ref sig .tc := ⟨.hbm, 40, rfl⟩
abbrev main_while0b_c_15 : Ref sig .tc := ⟨.hbm, 41, rfl⟩
abbrev main_while0b_v18 : Ref sig .tc := ⟨.hbm, 42, rfl⟩
abbrev main_while0b_c_16 : Ref sig .tc := ⟨.hbm, 43, rfl⟩
abbrev main_while0b_c_17 : Ref sig .tc := ⟨.hbm, 44, rfl⟩
abbrev main_while0b_v19 : Ref sig .tc := ⟨.hbm, 45, rfl⟩
abbrev main_while0b_c_18 : Ref sig .tc := ⟨.hbm, 46, rfl⟩
abbrev main_while0b_c_19 : Ref sig .tc := ⟨.hbm, 47, rfl⟩
abbrev main_while0b_v20 : Ref sig .tc := ⟨.hbm, 48, rfl⟩
abbrev main_while0b_c_20 : Ref sig .tc := ⟨.hbm, 49, rfl⟩
abbrev main_while0b_v21 : Ref sig .tc := ⟨.hbm, 50, rfl⟩
abbrev main_while0b_v22 : Ref sig .tc := ⟨.hbm, 51, rfl⟩
abbrev main_while0b_v23 : Ref sig .tc := ⟨.hbm, 52, rfl⟩
abbrev main_while0b_v24 : Ref sig .tc := ⟨.hbm, 53, rfl⟩
abbrev main_while0b_v25 : Ref sig .tc := ⟨.hbm, 54, rfl⟩
abbrev main_while0b_v26 : Ref sig .tc := ⟨.hbm, 55, rfl⟩
abbrev main_while0b_v27 : Ref sig .tc := ⟨.hbm, 56, rfl⟩
abbrev main_while0b_v28 : Ref sig .tc := ⟨.hbm, 57, rfl⟩
abbrev main_while0b_v29 : Ref sig .tc := ⟨.hbm, 58, rfl⟩
abbrev main_while0b_v30 : Ref sig .tc := ⟨.hbm, 59, rfl⟩
abbrev main_while0b_cst : Ref sig .tc := ⟨.hbm, 60, rfl⟩
abbrev main_while0b_v31 : Ref sig .tc := ⟨.hbm, 61, rfl⟩
abbrev main_while0b_v32 : Ref sig .tc := ⟨.hbm, 62, rfl⟩
abbrev main_while0b_v33 : Ref sig .tc := ⟨.hbm, 63, rfl⟩
abbrev main_while0b_v34 : Ref sig .tc := ⟨.hbm, 64, rfl⟩
abbrev main_while0b_v35 : Ref sig .tc := ⟨.hbm, 65, rfl⟩
abbrev main_while0b_v36 : Ref sig .tc := ⟨.hbm, 66, rfl⟩
abbrev main_while0b_v37 : Ref sig .tc := ⟨.hbm, 67, rfl⟩
abbrev main_while0b_v38 : Ref sig .tc := ⟨.hbm, 68, rfl⟩
abbrev main_while0b_v39 : Ref sig .tc := ⟨.hbm, 69, rfl⟩
abbrev main_while0b_v40 : Ref sig .tc := ⟨.hbm, 70, rfl⟩
abbrev main_while0b_v41 : Ref sig .tc := ⟨.hbm, 71, rfl⟩
abbrev main_while0b_v42 : Ref sig .tc := ⟨.hbm, 72, rfl⟩
abbrev main_while0b_cst_21 : Ref sig .tc := ⟨.hbm, 73, rfl⟩
abbrev main_while0b_v43 : Ref sig .tc := ⟨.hbm, 74, rfl⟩
abbrev main_while0b_v44 : Ref sig .tc := ⟨.hbm, 75, rfl⟩
abbrev main_while0b_v45 : Ref sig .tc := ⟨.hbm, 76, rfl⟩
abbrev main_while0b_v46 : Ref sig .tc := ⟨.hbm, 77, rfl⟩
abbrev main_while0b_cst_22 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_v51 : Ref sig .tc := ⟨.hbm, 83, rfl⟩
abbrev main_while0b_v52 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_v56 : Ref sig .tc := ⟨.hbm, 88, rfl⟩
abbrev main_while0b_v57 : Ref sig .tc := ⟨.hbm, 89, rfl⟩
abbrev main_while0b_v58 : Ref sig .tc := ⟨.hbm, 90, rfl⟩
abbrev main_while0b_v59 : Ref sig .tc := ⟨.hbm, 91, rfl⟩
abbrev main_while0b_v60 : Ref sig .tc := ⟨.hbm, 92, rfl⟩
abbrev main_while0b_v61 : Ref sig .tc := ⟨.hbm, 93, rfl⟩
abbrev main_while0b_cst_23 : Ref sig .tc := ⟨.hbm, 94, rfl⟩
abbrev main_while0b_v62 : Ref sig .tc := ⟨.hbm, 95, rfl⟩
abbrev main_while0b_v63 : Ref sig .tc := ⟨.hbm, 96, rfl⟩
abbrev main_while0b_v64 : Ref sig .tc := ⟨.hbm, 97, rfl⟩
abbrev main_while0b_v65 : Ref sig .tc := ⟨.hbm, 98, rfl⟩
abbrev main_while0b_cst_24 : Ref sig .tc := ⟨.hbm, 99, rfl⟩
abbrev main_while0b_v66 : Ref sig .tc := ⟨.hbm, 100, rfl⟩
abbrev main_while0b_v67 : Ref sig .tc := ⟨.hbm, 101, rfl⟩
abbrev main_while0b_v68 : Ref sig .tc := ⟨.hbm, 102, rfl⟩
abbrev main_while0b_v69 : Ref sig .tc := ⟨.hbm, 103, rfl⟩
abbrev main_while0b_v70 : Ref sig .tc := ⟨.hbm, 104, rfl⟩
abbrev main_while0b_v71 : Ref sig .tc := ⟨.hbm, 105, rfl⟩
abbrev main_while0b_v72 : Ref sig .tc := ⟨.hbm, 106, rfl⟩
abbrev main_while0b_v73 : Ref sig .tc := ⟨.hbm, 107, rfl⟩
abbrev main_while0b_v74 : Ref sig .tc := ⟨.hbm, 108, rfl⟩
abbrev main_while0b_v75 : Ref sig .tc := ⟨.hbm, 109, rfl⟩
abbrev main_while0b_v76 : Ref sig .tc := ⟨.hbm, 110, rfl⟩
abbrev main_while0b_v77 : Ref sig .tc := ⟨.hbm, 111, rfl⟩
abbrev main_while0b_v78 : Ref sig .tc := ⟨.hbm, 112, rfl⟩
abbrev main_while0b_v79 : Ref sig .tc := ⟨.hbm, 113, rfl⟩
abbrev main_while0b_v80 : Ref sig .tc := ⟨.hbm, 114, rfl⟩
abbrev main_while0b_cst_25 : Ref sig .tc := ⟨.hbm, 115, rfl⟩
abbrev main_while0b_v81 : Ref sig .tc := ⟨.hbm, 116, rfl⟩
abbrev main_while0b_v82 : Ref sig .tc := ⟨.hbm, 117, rfl⟩
abbrev main_while0b_v83 : Ref sig .tc := ⟨.hbm, 118, rfl⟩
abbrev main_while0b_v84 : Ref sig .tc := ⟨.hbm, 119, rfl⟩
abbrev main_while0b_cst_26 : Ref sig .tc := ⟨.hbm, 120, rfl⟩
abbrev main_while0b_v85 : Ref sig .tc := ⟨.hbm, 121, rfl⟩
abbrev main_while0b_v86 : Ref sig .tc := ⟨.hbm, 122, rfl⟩
abbrev main_while0b_v87 : Ref sig .tc := ⟨.hbm, 123, rfl⟩
abbrev main_while0b_v88 : Ref sig .tc := ⟨.hbm, 124, rfl⟩
abbrev main_while0b_v89 : Ref sig .tc := ⟨.hbm, 125, rfl⟩
abbrev main_while0b_v90 : Ref sig .tc := ⟨.hbm, 126, rfl⟩
abbrev main_while0b_cst_27 : Ref sig .tc := ⟨.hbm, 127, rfl⟩
abbrev main_while0b_v91 : Ref sig .tc := ⟨.hbm, 128, rfl⟩
abbrev main_while0b_v92 : Ref sig .tc := ⟨.hbm, 129, rfl⟩
abbrev main_while0b_v93 : Ref sig .tc := ⟨.hbm, 130, rfl⟩
abbrev main_while0b_cst_28 : Ref sig .tc := ⟨.hbm, 131, rfl⟩
abbrev main_while0b_v94 : Ref sig .tc := ⟨.hbm, 132, rfl⟩
abbrev main_while0b_v95 : Ref sig .tc := ⟨.hbm, 133, rfl⟩
abbrev main_while0b_v96 : Ref sig .tc := ⟨.hbm, 134, rfl⟩
abbrev main_while0b_v97 : Ref sig .tc := ⟨.hbm, 135, rfl⟩
abbrev main_while0b_v98 : Ref sig .tc := ⟨.hbm, 136, rfl⟩
abbrev main_while0b_v99 : Ref sig .tc := ⟨.hbm, 137, rfl⟩
abbrev main_while0b_v100 : Ref sig .tc := ⟨.hbm, 138, rfl⟩
abbrev main_while0b_v101 : Ref sig .tc := ⟨.hbm, 139, rfl⟩
abbrev main_while0b_v102 : Ref sig .tc := ⟨.hbm, 140, rfl⟩
abbrev main_while0b_v103 : Ref sig .tc := ⟨.hbm, 141, rfl⟩
abbrev main_while0b_v104 : Ref sig .tc := ⟨.hbm, 142, rfl⟩
abbrev main_while0b_v105 : Ref sig .tc := ⟨.hbm, 143, rfl⟩
abbrev main_while0b_v106 : Ref sig .tc := ⟨.hbm, 144, rfl⟩
abbrev main_while0b_v107 : Ref sig .tc := ⟨.hbm, 145, rfl⟩
abbrev main_while0b_v108 : Ref sig .tc := ⟨.hbm, 146, rfl⟩
abbrev main_while0b_v109 : Ref sig .tc := ⟨.hbm, 147, rfl⟩
abbrev main_while0b_v110 : Ref sig .tc := ⟨.hbm, 148, rfl⟩
abbrev main_while0b_v111 : Ref sig .tc := ⟨.hbm, 149, rfl⟩
abbrev main_while0b_v112 : Ref sig .tc := ⟨.hbm, 150, rfl⟩
abbrev main_while0b_v113 : Ref sig .tc := ⟨.hbm, 151, rfl⟩
abbrev main_while0b_v114 : Ref sig .tc := ⟨.hbm, 152, rfl⟩
abbrev main_while0b_v115 : Ref sig .tc := ⟨.hbm, 153, rfl⟩
abbrev main_while0b_v116 : Ref sig .tc := ⟨.hbm, 154, rfl⟩
abbrev main_while0b_v117 : Ref sig .tc := ⟨.hbm, 155, rfl⟩
abbrev main_while0b_v118 : Ref sig .tc := ⟨.hbm, 156, rfl⟩
abbrev main_while0b_v119 : Ref sig .tc := ⟨.hbm, 157, rfl⟩
abbrev main_while0b_v120 : Ref sig .tc := ⟨.hbm, 158, rfl⟩
abbrev main_while0b_v121 : Ref sig .tc := ⟨.hbm, 159, rfl⟩
abbrev main_while0b_v122 : Ref sig .tc := ⟨.hbm, 160, rfl⟩
abbrev main_while0b_v123 : Ref sig .tc := ⟨.hbm, 161, rfl⟩
abbrev main_while0b_v124 : Ref sig .tc := ⟨.hbm, 162, rfl⟩
abbrev main_while0b_v125 : Ref sig .tc := ⟨.hbm, 163, rfl⟩
abbrev main_while0b_v126 : Ref sig .tc := ⟨.hbm, 164, rfl⟩
abbrev main_while0b_v127 : Ref sig .tc := ⟨.hbm, 165, rfl⟩
abbrev main_while0b_v128 : Ref sig .tc := ⟨.hbm, 166, rfl⟩
abbrev main_while0b_v129 : Ref sig .tc := ⟨.hbm, 167, rfl⟩
abbrev main_while0b_v130 : Ref sig .tc := ⟨.hbm, 168, rfl⟩
abbrev main_while0b_v131 : Ref sig .tc := ⟨.hbm, 169, rfl⟩
abbrev main_while0b_cst_29 : Ref sig .tc := ⟨.hbm, 170, rfl⟩
abbrev main_while0b_v132 : Ref sig .tc := ⟨.hbm, 171, rfl⟩
abbrev main_while0b_v133 : Ref sig .tc := ⟨.hbm, 172, rfl⟩
abbrev main_while0b_c_30 : Ref sig .tc := ⟨.hbm, 173, rfl⟩
abbrev main_while0b_v134 : Ref sig .tc := ⟨.hbm, 174, rfl⟩
abbrev main_while0b_c_31 : Ref sig .tc := ⟨.hbm, 175, rfl⟩
abbrev main_while0b_v135 : Ref sig .tc := ⟨.hbm, 176, rfl⟩
abbrev main_while0b_v136 : Ref sig .tc := ⟨.hbm, 177, rfl⟩
abbrev main_while0b_c_32 : Ref sig .tc := ⟨.hbm, 178, rfl⟩
abbrev main_while0b_c_33 : Ref sig .tc := ⟨.hbm, 179, rfl⟩
abbrev main_while0b_v137 : Ref sig .tc := ⟨.hbm, 180, rfl⟩
abbrev main_while0b_c_34 : Ref sig .tc := ⟨.hbm, 181, rfl⟩
abbrev main_while0b_c_35 : Ref sig .tc := ⟨.hbm, 182, rfl⟩
abbrev main_while0b_v138 : Ref sig .tc := ⟨.hbm, 183, rfl⟩
abbrev main_while0b_c_36 : Ref sig .tc := ⟨.hbm, 184, rfl⟩
abbrev main_while0b_v139 : Ref sig .tc := ⟨.hbm, 185, rfl⟩
abbrev main_while0b_v140 : Ref sig .tc := ⟨.hbm, 186, rfl⟩
abbrev main_while0b_v141 : Ref sig .tc := ⟨.hbm, 187, rfl⟩
abbrev main_while0b_v142 : Ref sig .tc := ⟨.hbm, 188, rfl⟩
abbrev main_while0b_v143 : Ref sig .tc := ⟨.hbm, 189, rfl⟩
abbrev main_while0b_v144 : Ref sig .tc := ⟨.hbm, 190, rfl⟩
abbrev main_while0b_v145 : Ref sig .tc := ⟨.hbm, 191, rfl⟩
abbrev main_while0b_v146 : Ref sig .tc := ⟨.hbm, 192, rfl⟩
abbrev main_while0b_call0_v0 : Ref sig .tc := ⟨.hbm, 193, rfl⟩
abbrev main_while0b_v147 : Ref sig .tc := ⟨.hbm, 194, rfl⟩
abbrev main_while0b_cst_37 : Ref sig .tc := ⟨.hbm, 195, rfl⟩
abbrev main_while0b_v148 : Ref sig .tc := ⟨.hbm, 196, rfl⟩
abbrev main_while0b_v149 : Ref sig .tc := ⟨.hbm, 197, rfl⟩
abbrev main_while0b_v150 : Ref sig .tc := ⟨.hbm, 198, rfl⟩
abbrev main_while0b_v151 : Ref sig .tc := ⟨.hbm, 199, rfl⟩
abbrev main_while0b_v152 : Ref sig .tc := ⟨.hbm, 200, rfl⟩
abbrev main_while0b_v153 : Ref sig .tc := ⟨.hbm, 201, rfl⟩
abbrev main_while0b_v154 : Ref sig .tc := ⟨.hbm, 202, rfl⟩
abbrev main_while0b_v155 : Ref sig .tc := ⟨.hbm, 203, rfl⟩
abbrev main_while0b_v156 : Ref sig .tc := ⟨.hbm, 204, rfl⟩
abbrev main_while0b_v157 : Ref sig .tc := ⟨.hbm, 205, rfl⟩
abbrev main_while0b_cst_38 : Ref sig .tc := ⟨.hbm, 206, rfl⟩
abbrev main_while0b_v158 : Ref sig .tc := ⟨.hbm, 207, rfl⟩
abbrev main_while0b_v159 : Ref sig .tc := ⟨.hbm, 208, rfl⟩
abbrev main_while0b_v160 : Ref sig .tc := ⟨.hbm, 209, rfl⟩
abbrev main_while0b_v161 : Ref sig .tc := ⟨.hbm, 210, rfl⟩
abbrev main_while0b_cst_39 : Ref sig .tc := ⟨.hbm, 211, rfl⟩
abbrev main_while0b_v162 : Ref sig .tc := ⟨.hbm, 212, rfl⟩
abbrev main_while0b_cst_40 : Ref sig .tc := ⟨.hbm, 213, rfl⟩
abbrev main_while0b_v163 : Ref sig .tc := ⟨.hbm, 214, rfl⟩
abbrev main_while0b_v164 : Ref sig .tc := ⟨.hbm, 215, rfl⟩
abbrev main_while0b_v165 : Ref sig .tc := ⟨.hbm, 216, rfl⟩
abbrev main_while0b_v166 : Ref sig .tc := ⟨.hbm, 217, rfl⟩
abbrev main_while0b_cst_41 : Ref sig .tc := ⟨.hbm, 218, rfl⟩
abbrev main_while0b_v167 : Ref sig .tc := ⟨.hbm, 219, rfl⟩
abbrev main_while0b_v168 : Ref sig .tc := ⟨.hbm, 220, rfl⟩
abbrev main_while0b_cst_42 : Ref sig .tc := ⟨.hbm, 221, rfl⟩
abbrev main_while0b_v169 : Ref sig .tc := ⟨.hbm, 222, rfl⟩
abbrev main_while0b_v170 : Ref sig .tc := ⟨.hbm, 223, rfl⟩
abbrev main_while0b_v171 : Ref sig .tc := ⟨.hbm, 224, rfl⟩
abbrev main_while0b_v172 : Ref sig .tc := ⟨.hbm, 225, rfl⟩
abbrev main_while0b_cst_43 : Ref sig .tc := ⟨.hbm, 226, rfl⟩
abbrev main_while0b_v173 : Ref sig .tc := ⟨.hbm, 227, rfl⟩
abbrev main_while0b_v174 : Ref sig .tc := ⟨.hbm, 228, rfl⟩
abbrev main_while0b_v175 : Ref sig .tc := ⟨.hbm, 229, rfl⟩
abbrev main_while0b_v176 : Ref sig .tc := ⟨.hbm, 230, rfl⟩
abbrev main_while0b_v177 : Ref sig .tc := ⟨.hbm, 231, rfl⟩
abbrev main_while0b_v178 : Ref sig .tc := ⟨.hbm, 232, rfl⟩
abbrev main_while0b_v179 : Ref sig .tc := ⟨.hbm, 233, rfl⟩
abbrev main_while0b_v180 : Ref sig .tc := ⟨.hbm, 234, rfl⟩
abbrev main_while0b_v181 : Ref sig .tc := ⟨.hbm, 235, rfl⟩
abbrev main_while0b_v182 : Ref sig .tc := ⟨.hbm, 236, rfl⟩
abbrev main_while0b_v183 : Ref sig .tc := ⟨.hbm, 237, rfl⟩
abbrev main_while0b_cst_44 : Ref sig .tc := ⟨.hbm, 238, rfl⟩
abbrev main_while0b_v184 : Ref sig .tc := ⟨.hbm, 239, rfl⟩
abbrev main_while0b_v185 : Ref sig .tc := ⟨.hbm, 240, rfl⟩
abbrev main_while0b_v186 : Ref sig .tc := ⟨.hbm, 241, rfl⟩
abbrev main_while0b_v187 : Ref sig .tc := ⟨.hbm, 242, rfl⟩
abbrev main_while0b_cst_45 : Ref sig .tc := ⟨.hbm, 243, rfl⟩
abbrev main_while0b_v188 : Ref sig .tc := ⟨.hbm, 244, rfl⟩
abbrev main_while0b_cst_46 : Ref sig .tc := ⟨.hbm, 245, rfl⟩
abbrev main_while0b_v189 : Ref sig .tc := ⟨.hbm, 246, rfl⟩
abbrev main_while0b_v190 : Ref sig .tc := ⟨.hbm, 247, rfl⟩
abbrev main_while0b_v191 : Ref sig .tc := ⟨.hbm, 248, rfl⟩
abbrev main_while0b_v192 : Ref sig .tc := ⟨.hbm, 249, rfl⟩
abbrev main_while0b_cst_47 : Ref sig .tc := ⟨.hbm, 250, rfl⟩
abbrev main_while0b_v193 : Ref sig .tc := ⟨.hbm, 251, rfl⟩
abbrev main_while0b_v194 : Ref sig .tc := ⟨.hbm, 252, rfl⟩
abbrev main_while0b_cst_48 : Ref sig .tc := ⟨.hbm, 253, rfl⟩
abbrev main_while0b_v195 : Ref sig .tc := ⟨.hbm, 254, rfl⟩
abbrev main_while0b_v196 : Ref sig .tc := ⟨.hbm, 255, rfl⟩
abbrev main_while0b_v197 : Ref sig .tc := ⟨.hbm, 256, rfl⟩
abbrev main_while0b_v198 : Ref sig .tc := ⟨.hbm, 257, rfl⟩
abbrev main_while0b_cst_49 : Ref sig .tc := ⟨.hbm, 258, rfl⟩
abbrev main_while0b_v199 : Ref sig .tc := ⟨.hbm, 259, rfl⟩
abbrev main_while0b_v200 : Ref sig .tc := ⟨.hbm, 260, rfl⟩
abbrev main_while0b_v201 : Ref sig .tc := ⟨.hbm, 261, rfl⟩
abbrev main_while0b_v202 : Ref sig .tc := ⟨.hbm, 262, rfl⟩
abbrev main_while0b_v203 : Ref sig .tc := ⟨.hbm, 263, rfl⟩
abbrev main_while0b_v204 : Ref sig .tc := ⟨.hbm, 264, rfl⟩
abbrev main_while0b_v205 : Ref sig .tc := ⟨.hbm, 265, rfl⟩
abbrev main_while0b_v206 : Ref sig .tc := ⟨.hbm, 266, rfl⟩
abbrev main_while0b_v207 : Ref sig .tc := ⟨.hbm, 267, rfl⟩
abbrev main_while0b_v208 : Ref sig .tc := ⟨.hbm, 268, rfl⟩
abbrev main_while0b_v209 : Ref sig .tc := ⟨.hbm, 269, rfl⟩
abbrev main_while0b_cst_50 : Ref sig .tc := ⟨.hbm, 270, rfl⟩
abbrev main_while0b_v210 : Ref sig .tc := ⟨.hbm, 271, rfl⟩
abbrev main_while0b_v211 : Ref sig .tc := ⟨.hbm, 272, rfl⟩
abbrev main_while0b_v212 : Ref sig .tc := ⟨.hbm, 273, rfl⟩
abbrev main_while0b_v213 : Ref sig .tc := ⟨.hbm, 274, rfl⟩
abbrev main_while0b_cst_51 : Ref sig .tc := ⟨.hbm, 275, rfl⟩
abbrev main_while0b_v214 : Ref sig .tc := ⟨.hbm, 276, rfl⟩
abbrev main_while0b_cst_52 : Ref sig .tc := ⟨.hbm, 277, rfl⟩
abbrev main_while0b_v215 : Ref sig .tc := ⟨.hbm, 278, rfl⟩
abbrev main_while0b_v216 : Ref sig .tc := ⟨.hbm, 279, rfl⟩
abbrev main_while0b_v217 : Ref sig .tc := ⟨.hbm, 280, rfl⟩
abbrev main_while0b_v218 : Ref sig .tc := ⟨.hbm, 281, rfl⟩
abbrev main_while0b_cst_53 : Ref sig .tc := ⟨.hbm, 282, rfl⟩
abbrev main_while0b_v219 : Ref sig .tc := ⟨.hbm, 283, rfl⟩
abbrev main_while0b_v220 : Ref sig .tc := ⟨.hbm, 284, rfl⟩
abbrev main_while0b_cst_54 : Ref sig .tc := ⟨.hbm, 285, rfl⟩
abbrev main_while0b_v221 : Ref sig .tc := ⟨.hbm, 286, rfl⟩
abbrev main_while0b_v222 : Ref sig .tc := ⟨.hbm, 287, rfl⟩
abbrev main_while0b_v223 : Ref sig .tc := ⟨.hbm, 288, rfl⟩
abbrev main_while0b_v224 : Ref sig .tc := ⟨.hbm, 289, rfl⟩
abbrev main_while0b_cst_55 : Ref sig .tc := ⟨.hbm, 290, rfl⟩
abbrev main_while0b_v225 : Ref sig .tc := ⟨.hbm, 291, rfl⟩
abbrev main_while0b_v226 : Ref sig .tc := ⟨.hbm, 292, rfl⟩
abbrev main_while0b_v227 : Ref sig .tc := ⟨.hbm, 293, rfl⟩
abbrev main_while0b_v228 : Ref sig .tc := ⟨.hbm, 294, rfl⟩
abbrev main_while0b_cst_56 : Ref sig .tc := ⟨.hbm, 295, rfl⟩
abbrev main_while0b_v229 : Ref sig .tc := ⟨.hbm, 296, rfl⟩
abbrev main_while0b_v230 : Ref sig .tc := ⟨.hbm, 297, rfl⟩
abbrev main_while0b_cst_57 : Ref sig .tc := ⟨.hbm, 298, rfl⟩
abbrev main_while0b_v231 : Ref sig .tc := ⟨.hbm, 299, rfl⟩
abbrev main_while0b_cst_58 : Ref sig .tc := ⟨.hbm, 300, rfl⟩
abbrev main_while0b_v232 : Ref sig .tc := ⟨.hbm, 301, rfl⟩
abbrev main_while0b_cst_59 : Ref sig .tc := ⟨.hbm, 302, rfl⟩
abbrev main_while0b_cst_60 : Ref sig .tc := ⟨.hbm, 303, rfl⟩
abbrev main_while0b_v233 : Ref sig .tc := ⟨.hbm, 304, rfl⟩
abbrev main_while0b_v234 : Ref sig .tc := ⟨.hbm, 305, rfl⟩
abbrev main_while0b_v235 : Ref sig .tc := ⟨.hbm, 306, rfl⟩
abbrev main_while0b_v236 : Ref sig .tc := ⟨.hbm, 307, rfl⟩
abbrev main_while0b_v237 : Ref sig .tc := ⟨.hbm, 308, rfl⟩
abbrev main_while0b_v238 : Ref sig .tc := ⟨.hbm, 309, rfl⟩
abbrev main_while0b_v239 : Ref sig .tc := ⟨.hbm, 310, rfl⟩
abbrev main_while0b_v240 : Ref sig .tc := ⟨.hbm, 311, rfl⟩
abbrev main_while0b_cst_61 : Ref sig .tc := ⟨.hbm, 312, rfl⟩
abbrev main_while0b_v241 : Ref sig .tc := ⟨.hbm, 313, rfl⟩
abbrev main_while0b_v242 : Ref sig .tc := ⟨.hbm, 314, rfl⟩
abbrev main_while0b_v243 : Ref sig .tc := ⟨.hbm, 315, rfl⟩
abbrev main_while0b_v244 : Ref sig .tc := ⟨.hbm, 316, rfl⟩
abbrev main_while0b_cst_62 : Ref sig .tc := ⟨.hbm, 317, rfl⟩
abbrev main_while0b_v245 : Ref sig .tc := ⟨.hbm, 318, rfl⟩
abbrev main_while0b_v246 : Ref sig .tc := ⟨.hbm, 319, rfl⟩
abbrev main_while0b_v247 : Ref sig .tc := ⟨.hbm, 320, rfl⟩
abbrev main_while0b_v248 : Ref sig .tc := ⟨.hbm, 321, rfl⟩
abbrev main_while0b_v249 : Ref sig .tc := ⟨.hbm, 322, rfl⟩
abbrev main_while0b_cst_63 : Ref sig .tc := ⟨.hbm, 323, rfl⟩
abbrev main_while0b_v250 : Ref sig .tc := ⟨.hbm, 324, rfl⟩
abbrev main_while0b_v251 : Ref sig .tc := ⟨.hbm, 325, rfl⟩
abbrev main_while0b_v252 : Ref sig .tc := ⟨.hbm, 326, rfl⟩
abbrev main_while0b_v253 : Ref sig .tc := ⟨.hbm, 327, rfl⟩
abbrev main_while0b_cst_64 : Ref sig .tc := ⟨.hbm, 328, rfl⟩
abbrev main_while0b_v254 : Ref sig .tc := ⟨.hbm, 329, rfl⟩
abbrev main_while0b_v255 : Ref sig .tc := ⟨.hbm, 330, rfl⟩
abbrev main_while0b_v256 : Ref sig .tc := ⟨.hbm, 331, rfl⟩
abbrev main_while0b_v257 : Ref sig .tc := ⟨.hbm, 332, rfl⟩
abbrev main_while0b_v258 : Ref sig .tc := ⟨.hbm, 333, rfl⟩
abbrev main_while0b_cst_65 : Ref sig .tc := ⟨.hbm, 334, rfl⟩
abbrev main_while0b_v259 : Ref sig .tc := ⟨.hbm, 335, rfl⟩
abbrev main_while0b_v260 : Ref sig .tc := ⟨.hbm, 336, rfl⟩
abbrev main_while0b_v261 : Ref sig .tc := ⟨.hbm, 337, rfl⟩
abbrev main_while0b_cst_66 : Ref sig .tc := ⟨.hbm, 338, rfl⟩
abbrev main_while0b_v262 : Ref sig .tc := ⟨.hbm, 339, rfl⟩
abbrev main_while0b_v263 : Ref sig .tc := ⟨.hbm, 340, rfl⟩
abbrev main_while0b_cst_67 : Ref sig .tc := ⟨.hbm, 341, rfl⟩
abbrev main_while0b_v264 : Ref sig .tc := ⟨.hbm, 342, rfl⟩
abbrev main_while0b_v265 : Ref sig .tc := ⟨.hbm, 343, rfl⟩
abbrev main_while0b_v266 : Ref sig .tc := ⟨.hbm, 344, rfl⟩
abbrev main_while0b_v267 : Ref sig .tc := ⟨.hbm, 345, rfl⟩
abbrev main_while0b_v268 : Ref sig .tc := ⟨.hbm, 346, rfl⟩
abbrev main_while0b_v269 : Ref sig .tc := ⟨.hbm, 347, rfl⟩
abbrev main_while0b_cst_68 : Ref sig .tc := ⟨.hbm, 348, rfl⟩
abbrev main_while0b_v270 : Ref sig .tc := ⟨.hbm, 349, rfl⟩
abbrev main_while0b_v271 : Ref sig .tc := ⟨.hbm, 350, rfl⟩
abbrev main_while0b_v272 : Ref sig .tc := ⟨.hbm, 351, rfl⟩
abbrev main_while0b_v273 : Ref sig .tc := ⟨.hbm, 352, rfl⟩
abbrev main_while0b_cst_69 : Ref sig .tc := ⟨.hbm, 353, rfl⟩
abbrev main_while0b_v274 : Ref sig .tc := ⟨.hbm, 354, rfl⟩
abbrev main_while0b_v275 : Ref sig .tc := ⟨.hbm, 355, rfl⟩
abbrev main_while0b_v276 : Ref sig .tc := ⟨.hbm, 356, rfl⟩
abbrev main_while0b_v277 : Ref sig .tc := ⟨.hbm, 357, rfl⟩
abbrev main_while0b_v278 : Ref sig .tc := ⟨.hbm, 358, rfl⟩
abbrev main_while0b_cst_70 : Ref sig .tc := ⟨.hbm, 359, rfl⟩
abbrev main_while0b_v279 : Ref sig .tc := ⟨.hbm, 360, rfl⟩
abbrev main_while0b_v280 : Ref sig .tc := ⟨.hbm, 361, rfl⟩
abbrev main_while0b_v281 : Ref sig .tc := ⟨.hbm, 362, rfl⟩
abbrev main_while0b_v282 : Ref sig .tc := ⟨.hbm, 363, rfl⟩
abbrev main_while0b_cst_71 : Ref sig .tc := ⟨.hbm, 364, rfl⟩
abbrev main_while0b_v283 : Ref sig .tc := ⟨.hbm, 365, rfl⟩
abbrev main_while0b_v284 : Ref sig .tc := ⟨.hbm, 366, rfl⟩
abbrev main_while0b_v285 : Ref sig .tc := ⟨.hbm, 367, rfl⟩
abbrev main_while0b_v286 : Ref sig .tc := ⟨.hbm, 368, rfl⟩
abbrev main_while0b_v287 : Ref sig .tc := ⟨.hbm, 369, rfl⟩
abbrev main_while0b_cst_72 : Ref sig .tc := ⟨.hbm, 370, rfl⟩
abbrev main_while0b_v288 : Ref sig .tc := ⟨.hbm, 371, rfl⟩
abbrev main_while0b_v289 : Ref sig .tc := ⟨.hbm, 372, rfl⟩
abbrev main_while0b_v290 : Ref sig .tc := ⟨.hbm, 373, rfl⟩
abbrev main_while0b_cst_73 : Ref sig .tc := ⟨.hbm, 374, rfl⟩
abbrev main_while0b_v291 : Ref sig .tc := ⟨.hbm, 375, rfl⟩
abbrev main_while0b_v292 : Ref sig .tc := ⟨.hbm, 376, rfl⟩
abbrev main_while0b_v293 : Ref sig .tc := ⟨.hbm, 377, rfl⟩
abbrev main_while0b_cst_74 : Ref sig .tc := ⟨.hbm, 378, rfl⟩
abbrev main_while0b_v294 : Ref sig .tc := ⟨.hbm, 379, rfl⟩
abbrev main_while0b_v295 : Ref sig .tc := ⟨.hbm, 380, rfl⟩
abbrev main_while0b_v296 : Ref sig .tc := ⟨.hbm, 381, rfl⟩
abbrev main_while0b_v297 : Ref sig .tc := ⟨.hbm, 382, rfl⟩
abbrev main_while0b_v298 : Ref sig .tc := ⟨.hbm, 383, rfl⟩
abbrev main_while0b_v299 : Ref sig .tc := ⟨.hbm, 384, rfl⟩
abbrev main_while0b_cst_75 : Ref sig .tc := ⟨.hbm, 385, rfl⟩
abbrev main_while0b_v300 : Ref sig .tc := ⟨.hbm, 386, rfl⟩
abbrev main_while0b_v301 : Ref sig .tc := ⟨.hbm, 387, rfl⟩
abbrev main_while0b_v302 : Ref sig .tc := ⟨.hbm, 388, rfl⟩
abbrev main_while0b_v303 : Ref sig .tc := ⟨.hbm, 389, rfl⟩
abbrev main_while0b_cst_76 : Ref sig .tc := ⟨.hbm, 390, rfl⟩
abbrev main_while0b_v304 : Ref sig .tc := ⟨.hbm, 391, rfl⟩
abbrev main_while0b_v305 : Ref sig .tc := ⟨.hbm, 392, rfl⟩
abbrev main_while0b_v306 : Ref sig .tc := ⟨.hbm, 393, rfl⟩
abbrev main_while0b_v307 : Ref sig .tc := ⟨.hbm, 394, rfl⟩
abbrev main_while0b_v308 : Ref sig .tc := ⟨.hbm, 395, rfl⟩
abbrev main_while0b_cst_77 : Ref sig .tc := ⟨.hbm, 396, rfl⟩
abbrev main_while0b_v309 : Ref sig .tc := ⟨.hbm, 397, rfl⟩
abbrev main_while0b_v310 : Ref sig .tc := ⟨.hbm, 398, rfl⟩
abbrev main_while0b_v311 : Ref sig .tc := ⟨.hbm, 399, rfl⟩
abbrev main_while0b_v312 : Ref sig .tc := ⟨.hbm, 400, rfl⟩
abbrev main_while0b_cst_78 : Ref sig .tc := ⟨.hbm, 401, rfl⟩
abbrev main_while0b_v313 : Ref sig .tc := ⟨.hbm, 402, rfl⟩
abbrev main_while0b_v314 : Ref sig .tc := ⟨.hbm, 403, rfl⟩
abbrev main_while0b_v315 : Ref sig .tc := ⟨.hbm, 404, rfl⟩
abbrev main_while0b_v316 : Ref sig .tc := ⟨.hbm, 405, rfl⟩
abbrev main_while0b_v317 : Ref sig .tc := ⟨.hbm, 406, rfl⟩
abbrev main_while0b_cst_79 : Ref sig .tc := ⟨.hbm, 407, rfl⟩
abbrev main_while0b_v318 : Ref sig .tc := ⟨.hbm, 408, rfl⟩
abbrev main_while0b_v319 : Ref sig .tc := ⟨.hbm, 409, rfl⟩
abbrev main_while0b_v320 : Ref sig .tc := ⟨.hbm, 410, rfl⟩
abbrev main_while0b_cst_80 : Ref sig .tc := ⟨.hbm, 411, rfl⟩
abbrev main_while0b_v321 : Ref sig .tc := ⟨.hbm, 412, rfl⟩
abbrev main_while0b_v322 : Ref sig .tc := ⟨.hbm, 413, rfl⟩
abbrev main_while0b_v323 : Ref sig .tc := ⟨.hbm, 414, rfl⟩
abbrev main_while0b_cst_81 : Ref sig .tc := ⟨.hbm, 415, rfl⟩
abbrev main_while0b_v324 : Ref sig .tc := ⟨.hbm, 416, rfl⟩
abbrev main_while0b_v325 : Ref sig .tc := ⟨.hbm, 417, rfl⟩
abbrev main_while0b_cst_82 : Ref sig .tc := ⟨.hbm, 418, rfl⟩
abbrev main_while0b_v326 : Ref sig .tc := ⟨.hbm, 419, rfl⟩
abbrev main_while0b_v327 : Ref sig .tc := ⟨.hbm, 420, rfl⟩
abbrev main_while0b_v328 : Ref sig .tc := ⟨.hbm, 421, rfl⟩
abbrev main_while0b_cst_83 : Ref sig .tc := ⟨.hbm, 422, rfl⟩
abbrev main_while0b_v329 : Ref sig .tc := ⟨.hbm, 423, rfl⟩
abbrev main_while0b_v330 : Ref sig .tc := ⟨.hbm, 424, rfl⟩
abbrev main_while0b_v331 : Ref sig .tc := ⟨.hbm, 425, rfl⟩
abbrev main_while0b_cst_84 : Ref sig .tc := ⟨.hbm, 426, rfl⟩
abbrev main_while0b_v332 : Ref sig .tc := ⟨.hbm, 427, rfl⟩
abbrev main_while0b_v333 : Ref sig .tc := ⟨.hbm, 428, rfl⟩
abbrev main_while0b_c_85 : Ref sig .tc := ⟨.hbm, 429, rfl⟩
abbrev main_while0b_v334 : Ref sig .tc := ⟨.hbm, 430, rfl⟩

abbrev nD : Nat := 1
abbrev τ : Topo := Topo.v7x

variable {F : FTy → Type} [FloatOps F]

abbrev main_while0_count : Scf.Loop 32 := ⟨0#32, 16#32, 1#32⟩
-- ==== Proof.Density.lean ====
/- The arithmetic of one Monte Carlo step over the extended reals, at one walker: the constants, a normal density and what is
   known of it when its deviation is not zero, and the equation between the closed form of the gradient and the one that
   differentiating the densities gives. -/
module

public import Idealize.ShloMosaic.Lib.IdealHost
public import Idealize.ShloMosaic.PureOps

@[expose] public section

noncomputable section

namespace Cert.Sampler

open Idealize.ShloMosaic
open scoped BigOperators

/-! ## The constants -/

/-- The square root of 2π as it is rounded in the programs. -/
def cN : EReal := Ideal.ofBits .f32 0x40206C99#32

theorem two_bits : Ideal.ofBits .f32 0x40000000#32 = ((2 : ℝ) : EReal) := by
  simp [Ideal.ofBits, Ideal.ieee, -EReal.coe_mul]; norm_num

theorem one_bits : Ideal.ofBits .f32 0x3F800000#32 = ((1 : ℝ) : EReal) := by
  rw [Ideal.ofBits_one_f32]; rfl

theorem walkers_bits : Ideal.ofBits .f32 0x47800000#32 = ((65536 : ℝ) : EReal) := by
  simp [Ideal.ofBits, Ideal.ieee, -EReal.coe_mul]; norm_num

/-- The kernel's factor of the loss gradient: two over the number of walkers. -/
theorem twoOverWalkers_bits : Ideal.ofBits .f32 0x38000000#32 = ((1 / 32768 : ℝ) : EReal) := by
  simp [Ideal.ofBits, Ideal.ieee, -EReal.coe_mul]; norm_num

theorem negInf_bits : Ideal.ofBits .f32 0xFF800000#32 = ⊥ := by
  simp [Ideal.ofBits, Ideal.ieee]

theorem cN_eq : cN = ((10513561 / 4194304 : ℝ) : EReal) := by
  unfold cN
  simp [Ideal.ofBits, Ideal.ieee, -EReal.coe_mul]; norm_num

/-- The least deviation is positive. -/
theorem eps_pos : (0 : EReal) < Ideal.ofBits .f32 0x33D6BF95#32 := by
  have h : Ideal.ofBits .f32 0x33D6BF95#32 = ((14073749 / 140737488355328 : ℝ) : EReal) := by
    simp [Ideal.ofBits, Ideal.ieee, -EReal.coe_mul]; norm_num
  rw [h]; exact EReal.coe_pos.mpr (by norm_num)

/-! ## Reciprocals -/

/-- The reciprocal of a value that is not zero is a real number. -/
theorem inv_real {s : EReal} (h : s ≠ 0) : ∃ r : ℝ, s⁻¹ = (r : EReal) := by
  induction s using EReal.rec with
  | bot => exact ⟨0, by simp⟩
  | coe x => exact ⟨x⁻¹, (EReal.coe_inv x).symm⟩
  | top => exact ⟨0, by simp⟩

/-- A quotient by a value that is not zero is the product with the reciprocal. -/
theorem div_eq {x y : EReal} (h : y ≠ 0) : Ideal.div x y = x * y⁻¹ := by
  unfold Ideal.div; rw [if_neg h]

theorem two_ne : ((2 : ℝ) : EReal) ≠ 0 := by
  intro h; exact two_ne_zero (EReal.coe_eq_zero.mp h)

theorem cN_ne : cN ≠ 0 := by
  rw [cN_eq]; intro h; have := EReal.coe_eq_zero.mp h; norm_num at this

/-! ## Densities -/

/-- The exponential of a normal density of deviation `s` at distance `t` from its mean. -/
def ev (s t : EReal) : EReal := Ideal.exp (Ideal.div (-(t * t)) (((2 : ℝ) : EReal) * (s * s)))

/-- The normal density of deviation `s` at distance `t` from its mean. -/
def dens (s t : EReal) : EReal := Ideal.div (ev s t) (cN * s)

/-- The target's density in one coordinate. -/
def tgt (x : EReal) : EReal := Ideal.div (Ideal.exp (Ideal.div (-(x * x)) ((2 : ℝ) : EReal))) cN

theorem vv_ne {s : EReal} (h : s ≠ 0) : ((2 : ℝ) : EReal) * (s * s) ≠ 0 :=
  mul_ne_zero two_ne (mul_ne_zero h h)

/-- The exponential is a real number. -/
theorem ev_real {s : EReal} (h : s ≠ 0) (t : EReal) : ∃ e : ℝ, ev s t = (e : EReal) := by
  unfold ev
  rw [div_eq (vv_ne h), EReal.mul_inv, EReal.mul_inv]
  have ht : ∀ t : EReal, (t = ⊤ ∨ t = ⊥) ∨ ∃ x : ℝ, t = x := fun t => by
    induction t using EReal.rec with
    | bot => exact .inl (.inr rfl)
    | coe x => exact .inr ⟨x, rfl⟩
    | top => exact .inl (.inl rfl)
  obtain ⟨r, hr⟩ := inv_real h
  have h2 : (((2 : ℝ) : EReal))⁻¹ = ((2⁻¹ : ℝ) : EReal) := (EReal.coe_inv 2).symm
  rw [hr, h2]
  rcases ht t with ht | ⟨x, rfl⟩
  · have htt : t * t = ⊤ := by rcases ht with rfl | rfl <;> simp
    rw [htt]
    rcases eq_or_ne r 0 with rfl | hr0
    · refine ⟨Real.exp 0, ?_⟩
      rw [EReal.coe_zero, mul_zero, mul_zero, mul_zero, ← EReal.coe_zero, Ideal.exp_coe]
    · refine ⟨0, ?_⟩
      have hp : 0 < 2⁻¹ * (r * r) := mul_pos (by norm_num) (mul_self_pos.mpr hr0)
      rw [← EReal.coe_mul, ← EReal.coe_mul, EReal.neg_top, EReal.bot_mul_coe_of_pos hp, Ideal.exp_bot]; rfl
  · refine ⟨Real.exp (-(x * x) * (2⁻¹ * (r * r))), ?_⟩
    rw [← EReal.coe_mul, ← EReal.coe_mul, ← EReal.coe_mul, ← EReal.coe_neg, ← EReal.coe_mul, Ideal.exp_coe]

/-- The density is the exponential by a real factor. -/
theorem dens_eq {s : EReal} (h : s ≠ 0) (t : EReal) : dens s t = ev s t * (cN⁻¹ * s⁻¹) := by
  unfold dens; rw [div_eq (mul_ne_zero cN_ne h), EReal.mul_inv]

theorem cN_inv : cN⁻¹ = ((4194304 / 10513561 : ℝ) : EReal) := by
  rw [cN_eq, ← EReal.coe_inv]; norm_num

/-- The density is a real number, and it is zero at a distance that is not one. -/
theorem dens_real {s : EReal} (h : s ≠ 0) (t : EReal) :
    ∃ n : ℝ, dens s t = (n : EReal) ∧ ((∃ x : ℝ, t = (x : EReal)) ∨ n = 0) := by
  obtain ⟨r, hr⟩ := inv_real h
  obtain ⟨e, he⟩ := ev_real h t
  refine ⟨e * (4194304 / 10513561 * r), ?_, ?_⟩
  · rw [dens_eq h, he, cN_inv, hr, ← EReal.coe_mul, ← EReal.coe_mul]
  · rcases eq_or_ne r 0 with rfl | hr0
    · right; simp
    have hp : 0 < 2⁻¹ * (r * r) := mul_pos (by norm_num) (mul_self_pos.mpr hr0)
    have h2 : (((2 : ℝ) : EReal))⁻¹ = ((2⁻¹ : ℝ) : EReal) := (EReal.coe_inv 2).symm
    have key : t * t = ⊤ → e = 0 := fun htt => by
      unfold ev at he
      rw [div_eq (vv_ne h), EReal.mul_inv, EReal.mul_inv, hr, h2, htt, ← EReal.coe_mul, ← EReal.coe_mul, EReal.neg_top,
        EReal.bot_mul_coe_of_pos hp, Ideal.exp_bot] at he
      exact (EReal.coe_eq_zero.mp he.symm)
    induction t using EReal.rec with
    | bot => right; rw [key (by simp), zero_mul]
    | coe x => exact .inl ⟨x, rfl⟩
    | top => right; rw [key (by simp), zero_mul]

/-- The target's density in one coordinate is a real number. -/
theorem tgt_real (x : EReal) : ∃ p : ℝ, tgt x = (p : EReal) := by
  unfold tgt
  have h2 : (((2 : ℝ) : EReal))⁻¹ = ((2⁻¹ : ℝ) : EReal) := (EReal.coe_inv 2).symm
  rw [div_eq cN_ne, div_eq two_ne, h2, cN_inv]
  have key : x * x = ⊤ → ∃ p : ℝ, Ideal.exp (-(x * x) * ((2⁻¹ : ℝ) : EReal)) * ((4194304 / 10513561 : ℝ) : EReal) = (p : EReal) := fun hx => by
    rw [hx, EReal.neg_top, EReal.bot_mul_coe_of_pos (by norm_num), Ideal.exp_bot, zero_mul]; exact ⟨0, rfl⟩
  induction x using EReal.rec with
  | bot => exact key (by simp)
  | coe x =>
    refine ⟨Real.exp (-(x * x) * 2⁻¹) * (4194304 / 10513561), ?_⟩
    rw [← EReal.coe_mul, ← EReal.coe_neg, ← EReal.coe_mul, Ideal.exp_coe, ← EReal.coe_mul]
  | top => exact key (by simp)

end Cert.Sampler

end
-- ==== Proof.Gradient.lean ====
/- The gradient of the squared-difference loss in the mean and in the deviation of one coordinate. The reference differentiates the
   density operation by operation; the kernel sums over the walkers in closed form. Both are equal when the deviation is not zero,
   whatever the distances are: at a distance that is not a real number the density vanishes, and at an infinite deviation its
   reciprocal does. -/
module

public import proofs.«01_k».proof.Proof.Density

@[expose] public section

noncomputable section

namespace Cert.Sampler

open Idealize.ShloMosaic
open scoped BigOperators

variable {W : Type} [Fintype W]

theorem coe_sum (f : W → ℝ) : ((∑ w, f w : ℝ) : EReal) = ∑ w, (f w : EReal) := by
  classical
  refine Finset.induction_on (Finset.univ : Finset W) (by simp) fun a s ha ih => ?_
  rw [Finset.sum_insert ha, Finset.sum_insert ha, EReal.coe_add, ih]

/-- What is known of one walker: the other factors `a`, and the density, are real; and so are the density by the distance and by
    its square. -/
theorem weights_real {s : EReal} (h : s ≠ 0) (t : EReal) (a : ℝ) :
    ∃ k q p : ℝ, (a : EReal) * dens s t = (k : EReal) ∧ (a : EReal) * dens s t * t = (q : EReal) ∧ (a : EReal) * dens s t * (t * t) = (p : EReal) := by
  obtain ⟨n, hn, hx⟩ := dens_real h t
  rw [hn]
  rcases hx with ⟨x, rfl⟩ | rfl
  · exact ⟨a * n, a * n * x, a * n * (x * x), by simp only [EReal.coe_mul], by simp only [EReal.coe_mul], by simp only [EReal.coe_mul]⟩
  · exact ⟨0, 0, 0, by simp, by simp, by simp⟩

theorem two_inv : (((2 : ℝ) : EReal))⁻¹ = ((1 / 2 : ℝ) : EReal) := by
  rw [← EReal.coe_inv]; norm_num

/-- The cotangent of the exponential is the closed form's coefficient. -/
theorem cot_exp {s : EReal} (h : s ≠ 0) (t A : EReal) : Ideal.div A (cN * s) * ev s t = A * dens s t := by
  unfold dens
  rw [div_eq (mul_ne_zero cN_ne h), div_eq (mul_ne_zero cN_ne h), mul_assoc, mul_comm _ (ev s t)]

/-- The gradient in the mean. -/
theorem grad_mean {s : EReal} (h : s ≠ 0) (t A : W → EReal) (hA : ∀ w, ∃ a : ℝ, A w = (a : EReal)) :
    -(∑ w, -(Ideal.div (Ideal.div (A w) (cN * s) * ev s (t w)) (((2 : ℝ) : EReal) * (s * s))) * (((2 : ℝ) : EReal) * t w))
      = (∑ w, A w * dens s (t w) * t w) * Ideal.div ((1 : ℝ) : EReal) (s * s) := by
  choose a ha using hA
  choose k q p hk hq hp using fun w => weights_real h (t w) (a w)
  obtain ⟨r, hr⟩ := inv_real h
  have e1 : ∀ w, -(Ideal.div (Ideal.div (A w) (cN * s) * ev s (t w)) (((2 : ℝ) : EReal) * (s * s))) * (((2 : ℝ) : EReal) * t w)
      = ((-(q w * (r * r)) : ℝ) : EReal) := fun w => by
    rw [cot_exp h, ha w, div_eq (vv_ne h), EReal.mul_inv, EReal.mul_inv, hr, two_inv]
    have : (a w : EReal) * dens s (t w) * (((1 / 2 : ℝ) : EReal) * ((r : EReal) * (r : EReal))) * (((2 : ℝ) : EReal) * t w)
        = ((a w : EReal) * dens s (t w) * t w) * ((((1 / 2 : ℝ) : EReal) * ((2 : ℝ) : EReal)) * ((r : EReal) * (r : EReal))) := by ac_rfl
    rw [EReal.neg_mul, this, hq w, ← EReal.coe_mul, ← EReal.coe_mul, ← EReal.coe_mul, ← EReal.coe_mul, ← EReal.coe_neg]
    norm_num
  have e2 : ∀ w, A w * dens s (t w) * t w = (q w : EReal) := fun w => by rw [ha w, hq w]
  simp only [e1, e2]
  rw [div_eq (mul_ne_zero h h), EReal.mul_inv, hr, ← coe_sum, ← coe_sum, ← EReal.coe_neg, ← EReal.coe_mul, ← EReal.coe_mul, ← EReal.coe_mul]
  congr 1
  rw [Finset.sum_neg_distrib, neg_neg, Finset.sum_mul]
  simp

/-- A cube of the reciprocal: the reciprocal's fourth power by the value. -/
theorem inv_four {s : EReal} {r : ℝ} (h : s ≠ 0) (hr : s⁻¹ = (r : EReal)) (x : ℝ) :
    ((x * (r * r * (r * r)) : ℝ) : EReal) * s = ((x * (r * r) * r : ℝ) : EReal) := by
  induction s using EReal.rec with
  | bot =>
    have : r = 0 := by rw [EReal.inv_bot] at hr; exact (EReal.coe_eq_zero.mp hr.symm)
    subst this; simp
  | coe y =>
    have hy : y ≠ 0 := fun e => h (by rw [e]; rfl)
    rw [← EReal.coe_inv, EReal.coe_eq_coe_iff] at hr
    rw [← EReal.coe_mul, EReal.coe_eq_coe_iff, ← hr]
    field_simp
  | top =>
    have : r = 0 := by rw [EReal.inv_top] at hr; exact (EReal.coe_eq_zero.mp hr.symm)
    subst this; simp

/-- The gradient in the deviation. -/
theorem grad_dev {s : EReal} (h : s ≠ 0) (t A : W → EReal) (hA : ∀ w, ∃ a : ℝ, A w = (a : EReal)) :
    cN * -(∑ w, A w * Ideal.div ((1 : ℝ) : EReal) ((cN * s) * (cN * s)) * ev s (t w))
      + (((2 : ℝ) : EReal) * -(∑ w, (Ideal.div (A w) (cN * s) * ev s (t w))
          * Ideal.div ((1 : ℝ) : EReal) ((((2 : ℝ) : EReal) * (s * s)) * (((2 : ℝ) : EReal) * (s * s))) * -(t w * t w)))
        * (((2 : ℝ) : EReal) * s)
      = Ideal.div ((∑ w, A w * dens s (t w) * (t w * t w)) * Ideal.div ((1 : ℝ) : EReal) (s * s)) s
        - Ideal.div (∑ w, A w * dens s (t w)) s := by
  choose a ha using hA
  choose k q p hk hq hp using fun w => weights_real h (t w) (a w)
  obtain ⟨r, hr⟩ := inv_real h
  have hc := mul_ne_zero cN_ne h
  have e1 : ∀ w, A w * Ideal.div ((1 : ℝ) : EReal) ((cN * s) * (cN * s)) * ev s (t w)
      = ((k w * (4194304 / 10513561 * r) : ℝ) : EReal) := fun w => by
    have e := hk w
    rw [dens_eq h] at e
    rw [ha w, div_eq (mul_ne_zero hc hc), EReal.mul_inv, EReal.mul_inv, EReal.coe_one, one_mul]
    have : (a w : EReal) * (cN⁻¹ * s⁻¹ * (cN⁻¹ * s⁻¹)) * ev s (t w) = (a w : EReal) * (ev s (t w) * (cN⁻¹ * s⁻¹)) * (cN⁻¹ * s⁻¹) := by ac_rfl
    rw [this, e, cN_inv, hr, ← EReal.coe_mul, ← EReal.coe_mul]
  have e2 : ∀ w, (Ideal.div (A w) (cN * s) * ev s (t w))
          * Ideal.div ((1 : ℝ) : EReal) ((((2 : ℝ) : EReal) * (s * s)) * (((2 : ℝ) : EReal) * (s * s))) * -(t w * t w)
      = ((-(p w * (1 / 4 * (r * r * (r * r)))) : ℝ) : EReal) := fun w => by
    rw [cot_exp h, ha w, div_eq (mul_ne_zero (vv_ne h) (vv_ne h)), EReal.mul_inv, EReal.mul_inv, EReal.mul_inv, two_inv, EReal.coe_one,
      one_mul, mul_comm _ (-(t w * t w)), EReal.neg_mul, mul_comm (t w * t w), mul_right_comm, hp w, hr]
    simp only [← EReal.coe_mul, ← EReal.coe_neg]
    congr 1; ring
  have e3 : ∀ w, A w * dens s (t w) * (t w * t w) = (p w : EReal) := fun w => by rw [ha w, hp w]
  have e4 : ∀ w, A w * dens s (t w) = (k w : EReal) := fun w => by rw [ha w, hk w]
  simp only [e1, e2, e3]
  simp only [e4]
  rw [div_eq (mul_ne_zero h h), div_eq h, div_eq h, EReal.mul_inv, hr]
  simp only [← coe_sum, ← EReal.coe_neg, ← EReal.coe_mul]
  rw [← mul_assoc, ← EReal.coe_mul]
  have e5 : ((2 * -∑ w, -(p w * (1 / 4 * (r * r * (r * r)))) : ℝ) * 2 : ℝ) = (∑ w, p w) * (r * r * (r * r)) := by
    rw [Finset.sum_neg_distrib, ← Finset.sum_mul]; ring
  rw [e5, inv_four h hr, cN_eq]
  simp only [← EReal.coe_mul, ← EReal.coe_add, ← EReal.coe_sub]
  congr 1
  rw [← Finset.sum_mul]; ring

end Cert.Sampler

end
-- ==== Proof.Step.lean ====
/- One step of the sampler as a function on plain arrays of extended reals: `x w j` is coordinate `j` of walker `w`'s proposal, coordinates
   going electron by electron, three to an electron; `m` and `s` are the proposal's mean and deviation in each of the three directions. -/
module

public import proofs.«01_k».proof.Proof.Gradient

@[expose] public section

noncomputable section

namespace Cert.Sampler

open Idealize.ShloMosaic
open scoped BigOperators

/-- The walkers. -/
abbrev Wk : Type := Fin 65536

/-- Direction `i` of electron 0 among a walker's coordinates. -/
def dir (i : Fin 3) : Fin 12 := ⟨i.val, by omega⟩

/-- The target's density at a walker: the product over its twelve coordinates. -/
def fW (x : Fin 12 → EReal) : EReal :=
  tgt (x 0) * tgt (x 1) * tgt (x 2) * tgt (x 3) * tgt (x 4) * tgt (x 5) * tgt (x 6) * tgt (x 7) * tgt (x 8) * tgt (x 9) * tgt (x 10) * tgt (x 11)

/-- The proposal's density at a walker, read at its first electron. -/
def gW (m s : Fin 3 → EReal) (x : Fin 12 → EReal) : EReal :=
  dens (s 0) (x 0 - m 0) * dens (s 1) (x 1 - m 1) * dens (s 2) (x 2 - m 2)

/-- The largest ratio of the two densities over the walkers. -/
def ratio (m s : Fin 3 → EReal) (x : Wk → Fin 12 → EReal) : EReal :=
  (Finset.univ : Finset Wk).fold max ⊥ fun w => Ideal.div (fW (x w)) (gW m s (x w))

/-- Whether the walker's proposal is accepted, at the uniform draw `u`. -/
def accept (m s : Fin 3 → EReal) (x : Wk → Fin 12 → EReal) (u : Wk → EReal) (w : Wk) : BitVec 1 :=
  Ideal.cmp .olt (gW m s (x w) * u w * ratio m s x) (fW (x w))

/-- The positions after the step. -/
def nextPos (m s : Fin 3 → EReal) (x : Wk → Fin 12 → EReal) (u : Wk → EReal) (pos : Wk → Fin 12 → EReal) (w : Wk) (j : Fin 12) : EReal :=
  if accept m s x u w = 1#1 then x w j else pos w j

/-- The loss gradient at a walker by the proposal's density. -/
def coef (m s : Fin 3 → EReal) (x : Fin 12 → EReal) : EReal :=
  ((1 / 32768 : ℝ) : EReal) * (gW m s x - fW x) * gW m s x

/-- The gradient in the mean. -/
def gradMean (m s : Fin 3 → EReal) (x : Wk → Fin 12 → EReal) (i : Fin 3) : EReal :=
  (∑ w, coef m s (x w) * (x w (dir i) - m i)) * Ideal.div ((1 : ℝ) : EReal) (s i * s i)

/-- The gradient in the deviation. -/
def gradDev (m s : Fin 3 → EReal) (x : Wk → Fin 12 → EReal) (i : Fin 3) : EReal :=
  Ideal.div ((∑ w, coef m s (x w) * ((x w (dir i) - m i) * (x w (dir i) - m i))) * Ideal.div ((1 : ℝ) : EReal) (s i * s i)) (s i)
    - Ideal.div (∑ w, coef m s (x w)) (s i)

/-- The next mean. -/
def nextMean (m s : Fin 3 → EReal) (x : Wk → Fin 12 → EReal) (i : Fin 3) : EReal :=
  m i - Ideal.ofBits .f32 0x3E4CCCCD#32 * gradMean m s x i

/-- The next deviation. -/
def nextDev (m s : Fin 3 → EReal) (x : Wk → Fin 12 → EReal) (i : Fin 3) : EReal :=
  max (s i - Ideal.ofBits .f32 0x3E4CCCCD#32 * gradDev m s x i) (Ideal.ofBits .f32 0x33D6BF95#32)

/-- The next deviation is not zero. -/
theorem nextDev_ne (m s : Fin 3 → EReal) (x : Wk → Fin 12 → EReal) (i : Fin 3) : nextDev m s x i ≠ 0 := by
  intro h
  have h1 : Ideal.ofBits .f32 0x33D6BF95#32 ≤ nextDev m s x i := le_max_right _ _
  rw [h] at h1
  exact absurd eps_pos (not_lt.mpr h1)

/-- The proposals from the draws. -/
def prop (mn sg : Fin 3 → EReal) (z : Wk → Fin 12 → EReal) (w : Wk) (j : Fin 12) : EReal :=
  mn ⟨j.val % 3, by omega⟩ + sg ⟨j.val % 3, by omega⟩ * z w j

/-! ## The sampler's run -/

/-- What the sampler carries from step to step. -/
structure State where
  mean : Fin 3 → EReal
  dev : Fin 3 → EReal
  pos : Wk → Fin 12 → EReal

/-- One step, at its normal draws `z` and its uniform draws `u`. -/
def State.next (σ : State) (z : Wk → Fin 12 → EReal) (u : Wk → EReal) : State where
  mean := nextMean σ.mean σ.dev (prop σ.mean σ.dev z)
  dev := nextDev σ.mean σ.dev (prop σ.mean σ.dev z)
  pos := nextPos σ.mean σ.dev (prop σ.mean σ.dev z) u σ.pos

/-- The state after `k` steps: the walkers start at the proposals of draw 0, and step `k` takes normal draw `k + 1` and uniform draw `k`. -/
def run (mn sg : Fin 3 → EReal) (z : ℕ → Wk → Fin 12 → EReal) (u : ℕ → Wk → EReal) : ℕ → State
  | 0 => ⟨mn, sg, prop mn sg (z 0)⟩
  | k + 1 => (run mn sg z u k).next (z (k + 1)) (u k)

/-- The deviations are never zero, if they are not at the start. -/
theorem run_dev_ne {mn sg : Fin 3 → EReal} (h : ∀ i, sg i ≠ 0) (z : ℕ → Wk → Fin 12 → EReal) (u : ℕ → Wk → EReal) (k : ℕ) :
    ∀ i, (run mn sg z u k).dev i ≠ 0 := by
  cases k with
  | zero => exact h
  | succ k => exact fun i => nextDev_ne _ _ _ i

/-! ## The arguments, read by step and walker -/

/-- The normal draws of step `k`: draws of electron `e` of walker `w` stand in row `4 w + e`. -/
def zOf (Z : Fin 17 → Fin 262144 → Fin 3 → EReal) (k : ℕ) (w : Wk) (j : Fin 12) : EReal :=
  Z ⟨k % 17, by omega⟩ ⟨4 * w.val + j.val / 3, by omega⟩ ⟨j.val % 3, by omega⟩

/-- The uniform draws of step `k`. -/
def uOf (U : Fin 16 → Wk → EReal) (k : ℕ) (w : Wk) : EReal := U ⟨k % 16, by omega⟩ w

/-! ## The gradient in the reference's form -/

/-- The loss gradient at a walker. -/
def cot (m s : Fin 3 → EReal) (x : Fin 12 → EReal) : EReal :=
  Ideal.div ((1 : ℝ) : EReal) ((65536 : ℝ) : EReal) * (((2 : ℝ) : EReal) * (gW m s x - fW x))

/-- The two factors as one real number. -/
theorem cot_eq (m s : Fin 3 → EReal) (x : Fin 12 → EReal) : cot m s x = ((1 / 32768 : ℝ) : EReal) * (gW m s x - fW x) := by
  unfold cot
  have h : ((65536 : ℝ) : EReal) ≠ 0 := by
    intro h; have := EReal.coe_eq_zero.mp h; norm_num at this
  rw [div_eq h, ← EReal.coe_inv, ← EReal.coe_mul, ← mul_assoc, ← EReal.coe_mul]
  norm_num

/-- A product of reals is real. -/
theorem real_mul {x y : EReal} (hx : ∃ a : ℝ, x = (a : EReal)) (hy : ∃ b : ℝ, y = (b : EReal)) : ∃ d : ℝ, x * y = (d : EReal) := by
  obtain ⟨a, rfl⟩ := hx
  obtain ⟨b, rfl⟩ := hy
  exact ⟨a * b, (EReal.coe_mul a b).symm⟩

/-- The target's density is real. -/
theorem fW_real (x : Fin 12 → EReal) : ∃ a : ℝ, fW x = (a : EReal) := by
  unfold fW
  iterate 11 refine real_mul ?_ (tgt_real _)
  exact tgt_real _

/-- A density of nonzero deviation is real. -/
theorem dens_real' {s : EReal} (h : s ≠ 0) (t : EReal) : ∃ a : ℝ, dens s t = (a : EReal) :=
  let ⟨a, ha, _⟩ := dens_real h t
  ⟨a, ha⟩

/-- The loss gradient at a walker is real. -/
theorem cot_real {m s : Fin 3 → EReal} (hs : ∀ i, s i ≠ 0) (x : Fin 12 → EReal) : ∃ a : ℝ, cot m s x = (a : EReal) := by
  rw [cot_eq]
  obtain ⟨f, hf⟩ := fW_real x
  obtain ⟨g, hg⟩ : ∃ a : ℝ, gW m s x = (a : EReal) :=
    real_mul (real_mul (dens_real' (hs 0) _) (dens_real' (hs 1) _)) (dens_real' (hs 2) _)
  exact ⟨1 / 32768 * (g - f), by rw [hf, hg, ← EReal.coe_sub, ← EReal.coe_mul]⟩

/-- What multiplies direction `i`'s own density in the cotangent of the three densities' product, as the reference associates it. -/
def others (m s : Fin 3 → EReal) (x : Fin 12 → EReal) : Fin 3 → EReal
  | 0 => ((1 : ℝ) : EReal) * ((cot m s x * dens (s 2) (x 2 - m 2)) * dens (s 1) (x 1 - m 1))
  | 1 => (((1 : ℝ) : EReal) * dens (s 0) (x 0 - m 0)) * (cot m s x * dens (s 2) (x 2 - m 2))
  | 2 => ((((1 : ℝ) : EReal) * dens (s 0) (x 0 - m 0)) * dens (s 1) (x 1 - m 1)) * cot m s x

/-- What reaches a density is real. -/
theorem others_real {m s : Fin 3 → EReal} (hs : ∀ i, s i ≠ 0) (x : Fin 12 → EReal) (i : Fin 3) : ∃ a : ℝ, others m s x i = (a : EReal) := by
  have h0 := dens_real' (hs 0) (x 0 - m 0)
  have h1 := dens_real' (hs 1) (x 1 - m 1)
  have h2 := dens_real' (hs 2) (x 2 - m 2)
  have hc := cot_real (m := m) hs x
  have h : ∃ a : ℝ, ((1 : ℝ) : EReal) = (a : EReal) := ⟨1, rfl⟩
  match i with
  | 0 => exact real_mul h (real_mul (real_mul hc h2) h1)
  | 1 => exact real_mul (real_mul h h0) (real_mul hc h2)
  | 2 => exact real_mul (real_mul (real_mul h h0) h1) hc

/-- What reaches a density, times the density, is the coefficient. -/
theorem others_dens (m s : Fin 3 → EReal) (x : Fin 12 → EReal) (i : Fin 3) :
    others m s x i * dens (s i) (x (dir i) - m i) = coef m s x := by
  unfold coef
  rw [← cot_eq]
  match i with
  | 0 =>
    show (((1 : ℝ) : EReal) * ((cot m s x * dens (s 2) (x 2 - m 2)) * dens (s 1) (x 1 - m 1))) * dens (s 0) (x 0 - m 0) = _
    rw [EReal.coe_one, one_mul]; unfold gW; ac_rfl
  | 1 =>
    show ((((1 : ℝ) : EReal) * dens (s 0) (x 0 - m 0)) * (cot m s x * dens (s 2) (x 2 - m 2))) * dens (s 1) (x 1 - m 1) = _
    rw [EReal.coe_one, one_mul]; unfold gW; ac_rfl
  | 2 =>
    show (((((1 : ℝ) : EReal) * dens (s 0) (x 0 - m 0)) * dens (s 1) (x 1 - m 1)) * cot m s x) * dens (s 2) (x 2 - m 2) = _
    rw [EReal.coe_one, one_mul]; unfold gW; ac_rfl

/-- The reference's gradient in the mean is the closed form. -/
theorem refMean {m s : Fin 3 → EReal} (hs : ∀ i, s i ≠ 0) (x : Wk → Fin 12 → EReal) (i : Fin 3) :
    -(∑ w, -(Ideal.div (Ideal.div (others m s (x w) i) (cN * s i) * ev (s i) (x w (dir i) - m i)) (((2 : ℝ) : EReal) * (s i * s i)))
        * (((2 : ℝ) : EReal) * (x w (dir i) - m i)))
      = gradMean m s x i := by
  rw [grad_mean (hs i) (fun w => x w (dir i) - m i) (fun w => others m s (x w) i) fun w => others_real hs (x w) i]
  unfold gradMean
  simp only [others_dens]

/-- The reference's gradient in the deviation is the closed form. -/
theorem refDev {m s : Fin 3 → EReal} (hs : ∀ i, s i ≠ 0) (x : Wk → Fin 12 → EReal) (i : Fin 3) :
    cN * -(∑ w, others m s (x w) i * Ideal.div ((1 : ℝ) : EReal) ((cN * s i) * (cN * s i)) * ev (s i) (x w (dir i) - m i))
      + (((2 : ℝ) : EReal) * -(∑ w, (Ideal.div (others m s (x w) i) (cN * s i) * ev (s i) (x w (dir i) - m i))
          * Ideal.div ((1 : ℝ) : EReal) ((((2 : ℝ) : EReal) * (s i * s i)) * (((2 : ℝ) : EReal) * (s i * s i)))
          * -((x w (dir i) - m i) * (x w (dir i) - m i))))
        * (((2 : ℝ) : EReal) * s i)
      = gradDev m s x i := by
  rw [grad_dev (hs i) (fun w => x w (dir i) - m i) (fun w => others m s (x w) i) fun w => others_real hs (x w) i]
  unfold gradDev
  simp only [others_dens]

end Cert.Sampler

end
-- ==== Proof.Lanes.lean ====
/- The kernel's lane layout: array position (r, c) of a block of 2048 × 128 holds electron `c % 4` of walker `32 r + c / 4`. Sums and maxima
   over the lanes that stand for whole walkers are sums and maxima over the walkers. -/
module

public import proofs.«01_k».proof.Proof.Gen.KernelIdeal.Skeleton
public import proofs.«01_k».proof.Proof.Step
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Cert.Sampler

/-- The walker at row `r`, lane `c`. -/
def wk (r : Fin 2048) (c : Fin 128) : Wk := ⟨32 * r.val + c.val / 4, by omega⟩

/-- Direction `i` of the electron at lane `c`, among its walker's coordinates. -/
def co (c : Fin 128) (i : Fin 3) : Fin 12 := ⟨3 * (c.val % 4) + i.val, by omega⟩

/-- A walker's first lane holds its first electron. -/
theorem co_base {c : Fin 128} (h : c.val % 4 = 0) (i : Fin 3) : co c i = dir i := Fin.ext (by simp [co, dir, h])

/-- A sum over the lanes of whole walkers is the sum over the walkers. -/
theorem sum_lanes (f : Wk → EReal) :
    (∑ r : Fin 2048, ∑ c : Fin 128, if c.val % 4 = 0 then f (wk r c) else 0) = ∑ w, f w := by
  have h1 : ∀ r : Fin 2048, (∑ c : Fin 128, if c.val % 4 = 0 then f (wk r c) else 0)
      = ∑ k : Fin 32, f ⟨k.val + 32 * r.val, by omega⟩ := by
    intro r
    rw [← Equiv.sum_comp (finProdFinEquiv (m := 32) (n := 4)) (fun c : Fin 128 => if c.val % 4 = 0 then f (wk r c) else 0),
      Fintype.sum_prod_type]
    refine Finset.sum_congr rfl fun k _ => ?_
    rw [Fin.sum_univ_four]
    have e0 : (finProdFinEquiv (m := 32) (n := 4) (k, 0)).val = 4 * k.val := by simp [finProdFinEquiv]
    have e1 : (finProdFinEquiv (m := 32) (n := 4) (k, 1)).val = 1 + 4 * k.val := by simp [finProdFinEquiv]
    have e2 : (finProdFinEquiv (m := 32) (n := 4) (k, 2)).val = 2 + 4 * k.val := by simp [finProdFinEquiv]
    have e3 : (finProdFinEquiv (m := 32) (n := 4) (k, 3)).val = 3 + 4 * k.val := by simp [finProdFinEquiv]
    rw [if_pos (by rw [e0]; omega), if_neg (by rw [e1]; omega), if_neg (by rw [e2]; omega), if_neg (by rw [e3]; omega)]
    simp only [add_zero]
    congr 1
    refine Fin.ext ?_
    show 32 * r.val + (finProdFinEquiv (m := 32) (n := 4) (k, 0)).val / 4 = k.val + 32 * r.val
    rw [e0]; omega
  simp only [h1]
  rw [← Equiv.sum_comp (finProdFinEquiv (m := 2048) (n := 32)) f, Fintype.sum_prod_type]
  rfl

/-- Row `w / 32`, lane `4 (w % 32) + e`: where electron `e` of walker `w` stands. -/
def rowOf (w : Wk) : Fin 2048 := ⟨w.val / 32, by omega⟩
/-- The lane of an electron of a walker, in its row. -/
def laneOf (w : Wk) (e : Fin 4) : Fin 128 := ⟨4 * (w.val % 32) + e.val, by omega⟩

/-- That lane belongs to the walker. -/
theorem wk_of (w : Wk) (e : Fin 4) : wk (rowOf w) (laneOf w e) = w :=
  Fin.ext (by show 32 * (w.val / 32) + (4 * (w.val % 32) + e.val) / 4 = w.val; omega)

/-- A maximum over the lanes of whole walkers, with the least value elsewhere, is the maximum over the walkers. -/
theorem max_lanes {ι : Type} [Fintype ι] (p : ι → Fin 2048) (q : ι → Fin 128) (hpq : ∀ r c, ∃ k, p k = r ∧ q k = c) (f : Wk → EReal) :
    (Finset.univ : Finset ι).fold max ⊥ (fun k => if (q k).val % 4 = 0 then f (wk (p k) (q k)) else ⊥)
      = (Finset.univ : Finset Wk).fold max ⊥ f := by
  apply le_antisymm
  · refine Finset.fold_max_le _ |>.mpr ⟨bot_le, fun k _ => ?_⟩
    split
    · exact (Finset.le_fold_max _).mpr (.inr ⟨_, Finset.mem_univ _, le_rfl⟩)
    · exact bot_le
  · refine Finset.fold_max_le _ |>.mpr ⟨bot_le, fun w _ => ?_⟩
    obtain ⟨k, hp, hq⟩ := hpq (rowOf w) (laneOf w 0)
    refine (Finset.le_fold_max _).mpr (.inr ⟨k, Finset.mem_univ _, ?_⟩)
    rw [hp, hq, if_pos (by show (4 * (w.val % 32) + 0) % 4 = 0; omega), wk_of]

end Cert.KernelIdeal.Value
end
-- ==== Proof.KernelPoint.lean ====
/- What one step's vectors hold lane by lane: the densities, the acceptance, the gradients and the next mean and deviation, in the terms of
   the plain step. -/
module

public import proofs.«01_k».proof.Proof.Lanes

@[expose] public section

set_option maxRecDepth 16384

noncomputable section

namespace Cert.KernelIdeal.Value

open Cert.KernelIdeal Cert.KernelIdeal.Gen Idealize.ShloMosaic Idealize.ShloMosaic.TcCoe Cert.Sampler

/-- The target's density in one coordinate, as the kernel writes it. -/
theorem tgt_form (x : EReal) :
    Ideal.div (Ideal.exp (Ideal.div (0 - x * x) (Ideal.ofBits FTy.f32 0x40000000#32))) (Ideal.ofBits FTy.f32 0x40206C99#32) = tgt x := by
  unfold tgt cN
  rw [two_bits, zero_sub]

/-- The normal density, as the kernel writes it. -/
theorem dens_form (s t : EReal) :
    Ideal.div (Ideal.exp (Ideal.div (0 - t * t) (Ideal.ofBits FTy.f32 0x40000000#32 * s * s))) (Ideal.ofBits FTy.f32 0x40206C99#32 * s)
      = dens s t := by
  unfold dens ev cN
  rw [two_bits, zero_sub, mul_assoc ((2 : ℝ) : EReal)]

/-- The proposals: mean plus deviation times the normal draws. -/
theorem prop0_at (a b : Vec Ideal S1x1 .f32) (z : Vec Ideal S1x1x2048x128 .f32) (r : Fin 2048) (c : Fin 128) :
    k0_pay41 (F := Ideal) a b z (ix2 r c) = a (ix2 0 0) + b (ix2 0 0) * z (ix4 0 0 r c) := by
  pointwise [k0_pay41]

theorem prop1_at (a b : Vec Ideal S1x1 .f32) (z : Vec Ideal S1x1x2048x128 .f32) (r : Fin 2048) (c : Fin 128) :
    k0_pay42 (F := Ideal) a b z (ix2 r c) = a (ix2 0 0) + b (ix2 0 0) * z (ix4 0 0 r c) := by
  pointwise [k0_pay42]

theorem prop2_at (a b : Vec Ideal S1x1 .f32) (z : Vec Ideal S1x1x2048x128 .f32) (r : Fin 2048) (c : Fin 128) :
    k0_pay43 (F := Ideal) a b z (ix2 r c) = a (ix2 0 0) + b (ix2 0 0) * z (ix4 0 0 r c) := by
  pointwise [k0_pay43]

/-- The lanes that stand for whole walkers. -/
theorem base_at (r : Fin 2048) (c : Fin 128) : k0_pay6 (ix2 r c) = if c.val % 4 = 0 then 1#1 else 0#1 := by
  pointwise [k0_pay6]
  clear r
  revert c
  decide +kernel

theorem target2_at (a : FVec Ideal S2048x128 .f32) (r : Fin 2048) (c : Fin 128) :
    k0_pay7 (F := Ideal) a (ix2 r c) = tgt (a (ix2 r c)) := by
  pointwise [k0_pay7]
  exact tgt_form _

theorem target01_at (a b : FVec Ideal S2048x128 .f32) (r : Fin 2048) (c : Fin 128) :
    k0_pay8 (F := Ideal) a b (ix2 r c) = tgt (a (ix2 r c)) * tgt (b (ix2 r c)) := by
  pointwise [k0_pay8]
  exact congrArg₂ (· * ·) (tgt_form _) (tgt_form _)

/-- The product over four neighbouring lanes. -/
theorem four_at (a b : FVec Ideal S2048x128 .f32) (r : Fin 2048) (c : Fin 128) (h : c.val + 3 < 128) :
    k0_pay9 (F := Ideal) a b (ix2 r c)
      = (b (ix2 r c) * a (ix2 r c)) * (b (ix2 r ⟨1 + c.val, by omega⟩) * a (ix2 r ⟨1 + c.val, by omega⟩))
        * (b (ix2 r ⟨2 + c.val, by omega⟩) * a (ix2 r ⟨2 + c.val, by omega⟩))
        * (b (ix2 r ⟨3 + c.val, by omega⟩) * a (ix2 r ⟨3 + c.val, by omega⟩)) := by
  pointwise [k0_pay9]
  rw [dif_pos (by omega), dif_pos (by omega), dif_pos (by omega)]

theorem first_at (a : FVec Ideal S2048x128 .f32) (m s : Vec Ideal S1x1 .f32) (r : Fin 2048) (c : Fin 128) :
    k0_pay10 (F := Ideal) a m s s s (ix2 r c) = dens (s (ix2 0 0)) (a (ix2 r c) - m (ix2 0 0)) := by
  pointwise [k0_pay10]
  exact dens_form _ _

theorem three_at (a b : FVec Ideal S2048x128 .f32) (d : FVec Ideal S2048x128 .f32) (m1 m2 s1 s2 : Vec Ideal S1x1 .f32)
    (r : Fin 2048) (c : Fin 128) :
    k0_pay13 (F := Ideal) a d (k0_pay11 b m1) (k0_pay12 s1) s1 s1 m2 s2 s2 s2 (ix2 r c)
      = d (ix2 r c) * dens (s1 (ix2 0 0)) (b (ix2 r c) - m1 (ix2 0 0)) * dens (s2 (ix2 0 0)) (a (ix2 r c) - m2 (ix2 0 0)) := by
  pointwise [k0_pay13, k0_pay11, k0_pay12]
  exact congrArg₂ (· * ·) (congrArg (d (ix2 r c) * ·) (dens_form _ _)) (dens_form _ _)

/-! ## A step's named vectors -/

/-- The target's density, lane by lane. -/
def fV (X0 X1 X2 : FVec Ideal S2048x128 .f32) : FVec Ideal S2048x128 .f32 := k0_pay9 (k0_pay7 X2) (k0_pay8 X0 X1)

/-- The proposal's density, lane by lane. -/
def gV (X0 X1 X2 : FVec Ideal S2048x128 .f32) (m0 m1 m2 s0 s1 s2 : Vec Ideal S1x1 .f32) : FVec Ideal S2048x128 .f32 :=
  k0_pay13 X2 (k0_pay10 X0 m0 s0 s0 s0) (k0_pay11 X1 m1) (k0_pay12 s1) s1 s1 m2 s2 s2 s2

section
variable {X0 X1 X2 : FVec Ideal S2048x128 .f32} {m0 m1 m2 s0 s1 s2 : Vec Ideal S1x1 .f32} {x : Wk → Fin 12 → EReal} {m s : Fin 3 → EReal}
variable (h0 : ∀ r c, X0 (ix2 r c) = x (wk r c) (co c 0)) (h1 : ∀ r c, X1 (ix2 r c) = x (wk r c) (co c 1))
  (h2 : ∀ r c, X2 (ix2 r c) = x (wk r c) (co c 2))
variable (hm0 : m0 (ix2 0 0) = m 0) (hm1 : m1 (ix2 0 0) = m 1) (hm2 : m2 (ix2 0 0) = m 2)
variable (hs0 : s0 (ix2 0 0) = s 0) (hs1 : s1 (ix2 0 0) = s 1) (hs2 : s2 (ix2 0 0) = s 2)

include h0 h1 h2 in
/-- On a walker's first lane the target's density is the walker's. -/
theorem fV_at (r : Fin 2048) (c : Fin 128) (hc : c.val % 4 = 0) : fV X0 X1 X2 (ix2 r c) = fW (x (wk r c)) := by
  unfold fV
  rw [four_at _ _ _ _ (by omega)]
  simp only [target01_at, target2_at, h0, h1, h2]
  have w1 : wk r ⟨1 + c.val, by omega⟩ = wk r c := Fin.ext (by show 32 * r.val + (1 + c.val) / 4 = 32 * r.val + c.val / 4; omega)
  have w2 : wk r ⟨2 + c.val, by omega⟩ = wk r c := Fin.ext (by show 32 * r.val + (2 + c.val) / 4 = 32 * r.val + c.val / 4; omega)
  have w3 : wk r ⟨3 + c.val, by omega⟩ = wk r c := Fin.ext (by show 32 * r.val + (3 + c.val) / 4 = 32 * r.val + c.val / 4; omega)
  have c0 : ∀ i : Fin 3, co c i = ⟨i.val, by omega⟩ := fun i => Fin.ext (by show 3 * (c.val % 4) + i.val = i.val; omega)
  have c1 : ∀ i : Fin 3, co ⟨1 + c.val, by omega⟩ i = ⟨3 + i.val, by omega⟩ :=
    fun i => Fin.ext (by show 3 * ((1 + c.val) % 4) + i.val = 3 + i.val; omega)
  have c2 : ∀ i : Fin 3, co ⟨2 + c.val, by omega⟩ i = ⟨6 + i.val, by omega⟩ :=
    fun i => Fin.ext (by show 3 * ((2 + c.val) % 4) + i.val = 6 + i.val; omega)
  have c3 : ∀ i : Fin 3, co ⟨3 + c.val, by omega⟩ i = ⟨9 + i.val, by omega⟩ :=
    fun i => Fin.ext (by show 3 * ((3 + c.val) % 4) + i.val = 9 + i.val; omega)
  simp only [w1, w2, w3, c0, c1, c2, c3]
  unfold fW
  simp only [mul_assoc]
  rfl

include h0 h1 h2 hm0 hm1 hm2 hs0 hs1 hs2 in
/-- On a walker's first lane the proposal's density is the walker's. -/
theorem gV_at (r : Fin 2048) (c : Fin 128) (hc : c.val % 4 = 0) :
    gV X0 X1 X2 m0 m1 m2 s0 s1 s2 (ix2 r c) = gW m s (x (wk r c)) := by
  unfold gV
  rw [three_at, first_at, h0, h1, h2, hm0, hm1, hm2, hs0, hs1, hs2, co_base hc, co_base hc, co_base hc]
  rfl

theorem select_base (r : Fin 2048) (c : Fin 128) (a b : FVec Ideal S2048x128 .f32) :
    select k0_pay6 a b (ix2 r c) = if c.val % 4 = 0 then a (ix2 r c) else b (ix2 r c) := by
  show Scalar.select (k0_pay6 (ix2 r c)) _ _ = _
  rw [base_at]
  by_cases h : c.val % 4 = 0 <;> simp [h, Scalar.select]

include h0 h1 h2 hm0 hm1 hm2 hs0 hs1 hs2 in
/-- The loss gradient by the proposal's density, on the lanes of whole walkers. -/
theorem coef_at (r : Fin 2048) (c : Fin 128) :
    k0_pay21 k0_pay6 (fV X0 X1 X2) (gV X0 X1 X2 m0 m1 m2 s0 s1 s2) (ix2 r c)
      = if c.val % 4 = 0 then coef m s (x (wk r c)) else 0 := by
  unfold k0_pay21
  rw [select_base]
  split
  · rename_i hc
    pointwise
    rw [fV_at h0 h1 h2 r c hc, gV_at h0 h1 h2 hm0 hm1 hm2 hs0 hs1 hs2 r c hc, twoOverWalkers_bits]
    rfl
  · pointwise

theorem lr_mean (a b : Vec Ideal S1x1 .f32) : k0_pay27 (F := Ideal) a b (ix2 0 0) = b (ix2 0 0) - Ideal.ofBits .f32 0x3E4CCCCD#32 * a (ix2 0 0) := by
  pointwise [k0_pay27]

theorem lr_dev (a b : Vec Ideal S1x1 .f32) :
    k0_pay28 (F := Ideal) a b (ix2 0 0)
      = max (b (ix2 0 0) - Ideal.ofBits .f32 0x3E4CCCCD#32 * a (ix2 0 0)) (Ideal.ofBits .f32 0x33D6BF95#32) := by
  pointwise [k0_pay28]

/-- A sum over the block of the loss gradient times something is a sum over the walkers. -/
theorem weighted_sum {cf kw : Wk → EReal} {C K : Fin 2048 → Fin 128 → EReal} (hC : ∀ r c, C r c = if c.val % 4 = 0 then cf (wk r c) else 0)
    (hK : ∀ r c, c.val % 4 = 0 → K r c = kw (wk r c)) : (∑ r, ∑ c, C r c * K r c) = ∑ w, cf w * kw w := by
  rw [← sum_lanes]
  refine Finset.sum_congr rfl fun r _ => Finset.sum_congr rfl fun c _ => ?_
  rw [hC]
  split
  · rename_i hc
    rw [hK r c hc]
  · rw [zero_mul]

/-- The next mean and deviation in one direction, from the block's sums. -/
theorem mean_form {C : Fin 2048 → Fin 128 → EReal} {X : FVec Ideal S2048x128 .f32} {i : Fin 3} {mi si : EReal}
    (hC : ∀ r c, C r c = if c.val % 4 = 0 then coef m s (x (wk r c)) else 0)
    (hX : ∀ r c, X (ix2 r c) = x (wk r c) (co c i)) (hm : mi = m i) (hs : si = s i) :
    mi - Ideal.ofBits FTy.f32 0x3E4CCCCD#32 * ((∑ r, ∑ c, C r c * (X (ix2 r c) - mi)) * Ideal.div 1 (si * si)) = nextMean m s x i := by
  subst hm hs
  rw [weighted_sum (cf := fun w => coef m s (x w)) (kw := fun w => x w (dir i) - m i) hC fun r c hc => by rw [hX, co_base hc]]
  rfl

theorem dev_form {C : Fin 2048 → Fin 128 → EReal} {X : FVec Ideal S2048x128 .f32} {i : Fin 3} {mi si : EReal}
    (hC : ∀ r c, C r c = if c.val % 4 = 0 then coef m s (x (wk r c)) else 0)
    (hX : ∀ r c, X (ix2 r c) = x (wk r c) (co c i)) (hm : mi = m i) (hs : si = s i) :
    max (si - Ideal.ofBits FTy.f32 0x3E4CCCCD#32
        * (Ideal.div ((∑ r, ∑ c, C r c * ((X (ix2 r c) - mi) * (X (ix2 r c) - mi))) * Ideal.div 1 (si * si)) si
          - Ideal.div (∑ r, ∑ c, C r c) si)) (Ideal.ofBits FTy.f32 0x33D6BF95#32) = nextDev m s x i := by
  subst hm hs
  rw [weighted_sum (cf := fun w => coef m s (x w)) (kw := fun w => (x w (dir i) - m i) * (x w (dir i) - m i)) hC fun r c hc => by rw [hX, co_base hc]]
  simp only [hC]
  rw [sum_lanes fun w => coef m s (x w)]
  rfl

include h0 h1 h2 hm0 hm1 hm2 hs0 hs1 hs2 in
/-- The next mean of the first direction. -/
theorem mean0_at : k0_pay27 (F := Ideal) (k0_pay25 X0 k0_pay6 (fV X0 X1 X2) (gV X0 X1 X2 m0 m1 m2 s0 s1 s2) s0 m0) m0 (ix2 0 0)
    = nextMean m s x 0 := by
  pointwise [k0_pay27, k0_pay25, k0_pay23, k0_pay24]
  exact mean_form (coef_at h0 h1 h2 hm0 hm1 hm2 hs0 hs1 hs2) h0 hm0 hs0

include h0 h1 h2 hm0 hm1 hm2 hs0 hs1 hs2 in
/-- The next mean of the second direction. -/
theorem mean1_at : k0_pay33 (F := Ideal) (k0_pay31 X1 (k0_pay21 k0_pay6 (fV X0 X1 X2) (gV X0 X1 X2 m0 m1 m2 s0 s1 s2)) s1 m1) m1 (ix2 0 0)
    = nextMean m s x 1 := by
  pointwise [k0_pay33, k0_pay31, k0_pay29, k0_pay30]
  exact mean_form (coef_at h0 h1 h2 hm0 hm1 hm2 hs0 hs1 hs2) h1 hm1 hs1

include h0 h1 h2 hm0 hm1 hm2 hs0 hs1 hs2 in
/-- The next mean of the third direction. -/
theorem mean2_at : k0_pay4 (F := Ideal) (k0_pay37 X2 (k0_pay21 k0_pay6 (fV X0 X1 X2) (gV X0 X1 X2 m0 m1 m2 s0 s1 s2)) s2 m2) m2 (ix2 0 0)
    = nextMean m s x 2 := by
  pointwise [k0_pay4, k0_pay37, k0_pay35, k0_pay36]
  exact mean_form (coef_at h0 h1 h2 hm0 hm1 hm2 hs0 hs1 hs2) h2 hm2 hs2

include h0 h1 h2 hm0 hm1 hm2 hs0 hs1 hs2 in
/-- The next deviation of the first direction. -/
theorem dev0_at : k0_pay28 (F := Ideal) (k0_pay26 X0 k0_pay6 (fV X0 X1 X2) (gV X0 X1 X2 m0 m1 m2 s0 s1 s2) s0 m0) s0 (ix2 0 0)
    = nextDev m s x 0 := by
  pointwise [k0_pay28, k0_pay26, k0_pay22, k0_pay23, k0_pay24]
  exact dev_form (coef_at h0 h1 h2 hm0 hm1 hm2 hs0 hs1 hs2) h0 hm0 hs0

include h0 h1 h2 hm0 hm1 hm2 hs0 hs1 hs2 in
/-- The next deviation of the second direction. -/
theorem dev1_at : k0_pay34 (F := Ideal) (k0_pay32 X1 (k0_pay21 k0_pay6 (fV X0 X1 X2) (gV X0 X1 X2 m0 m1 m2 s0 s1 s2)) (k0_pay22 k0_pay6 (fV X0 X1 X2) (gV X0 X1 X2 m0 m1 m2 s0 s1 s2)) s1 m1) s1 (ix2 0 0)
    = nextDev m s x 1 := by
  pointwise [k0_pay34, k0_pay32, k0_pay22, k0_pay29, k0_pay30]
  exact dev_form (coef_at h0 h1 h2 hm0 hm1 hm2 hs0 hs1 hs2) h1 hm1 hs1

include h0 h1 h2 hm0 hm1 hm2 hs0 hs1 hs2 in
/-- The next deviation of the third direction. -/
theorem dev2_at : k0_pay5 (F := Ideal) (k0_pay38 X2 (k0_pay21 k0_pay6 (fV X0 X1 X2) (gV X0 X1 X2 m0 m1 m2 s0 s1 s2)) (k0_pay22 k0_pay6 (fV X0 X1 X2) (gV X0 X1 X2 m0 m1 m2 s0 s1 s2)) s2 m2) s2 (ix2 0 0)
    = nextDev m s x 2 := by
  pointwise [k0_pay5, k0_pay38, k0_pay22, k0_pay35, k0_pay36]
  exact dev_form (coef_at h0 h1 h2 hm0 hm1 hm2 hs0 hs1 hs2) h2 hm2 hs2

include h0 h1 h2 hm0 hm1 hm2 hs0 hs1 hs2 in
/-- The largest ratio over the walkers. -/
theorem ratio_at : k0_pay14 (F := Ideal) X2 k0_pay6 (fV X0 X1 X2) (k0_pay10 X0 m0 s0 s0 s0) (k0_pay11 X1 m1) (k0_pay12 s1) s1 s1 m2 s2 s2 s2
    = ratio m s x := by
  unfold k0_pay14
  pointwise
  rw [negInf_bits]
  refine Eq.trans ?_ (max_lanes (ι := Fin 2048 × Fin 128) (fun k => k.1) (fun k => k.2) (fun r c => ⟨(r, c), rfl, rfl⟩)
    fun w => Ideal.div (fW (x w)) (gW m s (x w)))
  refine congrArg (fun f => Finset.univ.fold max ⊥ f) (funext fun k => ?_)
  rw [base_at]
  by_cases hc : k.2.val % 4 = 0
  · rw [if_pos hc, if_pos hc]
    show Ideal.div (fV X0 X1 X2 (ix2 k.1 k.2)) (gV X0 X1 X2 m0 m1 m2 s0 s1 s2 (ix2 k.1 k.2)) = _
    rw [fV_at h0 h1 h2 _ _ hc, gV_at h0 h1 h2 hm0 hm1 hm2 hs0 hs1 hs2 _ _ hc]
  · rw [if_neg hc, if_neg hc]
    rfl

/-- Four neighbouring lanes added, where only the lanes of whole walkers hold something: every lane gets its walker's value. -/
theorem spread_at {v : FVec Ideal S2048x128 .f32} {F : Wk → EReal} (hv : ∀ r c, v (ix2 r c) = if c.val % 4 = 0 then F (wk r c) else 0)
    (r : Fin 2048) (c : Fin 128) :
    ((v (ix2 r c) + if h : c.val < 1 then v (ix2 r ⟨127 + c.val, by omega⟩) else v (ix2 r ⟨c.val - 1, by omega⟩))
        + if h : c.val < 2 then v (ix2 r ⟨126 + c.val, by omega⟩) else v (ix2 r ⟨c.val - 2, by omega⟩))
      + (if h : c.val < 3 then v (ix2 r ⟨125 + c.val, by omega⟩) else v (ix2 r ⟨c.val - 3, by omega⟩)) = F (wk r c) := by
  have hw : ∀ (n : ℕ) (hn : n < 128), n / 4 = c.val / 4 → wk r ⟨n, hn⟩ = wk r c := fun n hn h =>
    Fin.ext (by show 32 * r.val + n / 4 = 32 * r.val + c.val / 4; omega)
  obtain h | h | h | h : c.val % 4 = 0 ∨ c.val % 4 = 1 ∨ c.val % 4 = 2 ∨ c.val % 4 = 3 := by omega
  · have z1 : (if h : c.val < 1 then v (ix2 r ⟨127 + c.val, by omega⟩) else v (ix2 r ⟨c.val - 1, by omega⟩)) = 0 := by
      split
      · rw [hv, if_neg]; show ¬(127 + c.val) % 4 = 0; omega
      · rw [hv, if_neg]; show ¬(c.val - 1) % 4 = 0; omega
    have z2 : (if h : c.val < 2 then v (ix2 r ⟨126 + c.val, by omega⟩) else v (ix2 r ⟨c.val - 2, by omega⟩)) = 0 := by
      split
      · rw [hv, if_neg]; show ¬(126 + c.val) % 4 = 0; omega
      · rw [hv, if_neg]; show ¬(c.val - 2) % 4 = 0; omega
    have z3 : (if h : c.val < 3 then v (ix2 r ⟨125 + c.val, by omega⟩) else v (ix2 r ⟨c.val - 3, by omega⟩)) = 0 := by
      split
      · rw [hv, if_neg]; show ¬(125 + c.val) % 4 = 0; omega
      · rw [hv, if_neg]; show ¬(c.val - 3) % 4 = 0; omega
    rw [z1, z2, z3, hv, if_pos h, add_zero, add_zero, add_zero]
  · have z0 : v (ix2 r c) = 0 := by rw [hv, if_neg]; omega
    have z1 : (if h : c.val < 1 then v (ix2 r ⟨127 + c.val, by omega⟩) else v (ix2 r ⟨c.val - 1, by omega⟩)) = F (wk r c) := by
      rw [dif_neg (by omega), hv, if_pos (by show (c.val - 1) % 4 = 0; omega), hw _ _ (by omega)]
    have z2 : (if h : c.val < 2 then v (ix2 r ⟨126 + c.val, by omega⟩) else v (ix2 r ⟨c.val - 2, by omega⟩)) = 0 := by
      split
      · rw [hv, if_neg]; show ¬(126 + c.val) % 4 = 0; omega
      · rw [hv, if_neg]; show ¬(c.val - 2) % 4 = 0; omega
    have z3 : (if h : c.val < 3 then v (ix2 r ⟨125 + c.val, by omega⟩) else v (ix2 r ⟨c.val - 3, by omega⟩)) = 0 := by
      split
      · rw [hv, if_neg]; show ¬(125 + c.val) % 4 = 0; omega
      · rw [hv, if_neg]; show ¬(c.val - 3) % 4 = 0; omega
    rw [z0, z1, z2, z3, zero_add, add_zero, add_zero]
  · have z0 : v (ix2 r c) = 0 := by rw [hv, if_neg]; omega
    have z1 : (if h : c.val < 1 then v (ix2 r ⟨127 + c.val, by omega⟩) else v (ix2 r ⟨c.val - 1, by omega⟩)) = 0 := by
      rw [dif_neg (by omega), hv, if_neg]; show ¬(c.val - 1) % 4 = 0; omega
    have z2 : (if h : c.val < 2 then v (ix2 r ⟨126 + c.val, by omega⟩) else v (ix2 r ⟨c.val - 2, by omega⟩)) = F (wk r c) := by
      rw [dif_neg (by omega), hv, if_pos (by show (c.val - 2) % 4 = 0; omega), hw _ _ (by omega)]
    have z3 : (if h : c.val < 3 then v (ix2 r ⟨125 + c.val, by omega⟩) else v (ix2 r ⟨c.val - 3, by omega⟩)) = 0 := by
      split
      · rw [hv, if_neg]; show ¬(125 + c.val) % 4 = 0; omega
      · rw [hv, if_neg]; show ¬(c.val - 3) % 4 = 0; omega
    rw [z0, z1, z2, z3, zero_add, zero_add, add_zero]
  · have z0 : v (ix2 r c) = 0 := by rw [hv, if_neg]; omega
    have z1 : (if h : c.val < 1 then v (ix2 r ⟨127 + c.val, by omega⟩) else v (ix2 r ⟨c.val - 1, by omega⟩)) = 0 := by
      rw [dif_neg (by omega), hv, if_neg]; show ¬(c.val - 1) % 4 = 0; omega
    have z2 : (if h : c.val < 2 then v (ix2 r ⟨126 + c.val, by omega⟩) else v (ix2 r ⟨c.val - 2, by omega⟩)) = 0 := by
      rw [dif_neg (by omega), hv, if_neg]; show ¬(c.val - 2) % 4 = 0; omega
    have z3 : (if h : c.val < 3 then v (ix2 r ⟨125 + c.val, by omega⟩) else v (ix2 r ⟨c.val - 3, by omega⟩)) = F (wk r c) := by
      rw [dif_neg (by omega), hv, if_pos (by show (c.val - 3) % 4 = 0; omega), hw _ _ (by omega)]
    rw [z0, z1, z2, z3, zero_add, zero_add, zero_add]

/-- The acceptance, at every lane of a walker. -/
theorem accept_at {vf vg : FVec Ideal S2048x128 .f32} {F G : Wk → EReal}
    (hf : ∀ r c, vf (ix2 r c) = if c.val % 4 = 0 then F (wk r c) else 0) (hg : ∀ r c, vg (ix2 r c) = if c.val % 4 = 0 then G (wk r c) else 0)
    (mx : EReal) (u : Vec Ideal S1x2048x128 .f32) (r : Fin 2048) (c : Fin 128) :
    k0_pay17 (F := Ideal) mx vf vg u (ix2 r c) = Ideal.cmp .olt (G (wk r c) * u (ix3 0 r c) * mx) (F (wk r c)) := by
  pointwise [k0_pay17]
  have ef := spread_at hf r c
  have eg := spread_at hg r c
  simp only [ef, eg]

include h0 h1 h2 in
/-- Every lane receives the target's density of its walker. -/
theorem baseF_at (r : Fin 2048) (c : Fin 128) :
    k0_pay15 (F := Ideal) k0_pay6 (fV X0 X1 X2) (ix2 r c) = if c.val % 4 = 0 then fW (x (wk r c)) else 0 := by
  unfold k0_pay15
  rw [select_base]
  split
  · rename_i hc
    exact fV_at h0 h1 h2 r c hc
  · pointwise

include h0 h1 h2 hm0 hm1 hm2 hs0 hs1 hs2 in
/-- Every lane receives the proposal's density of its walker. -/
theorem baseG_at (r : Fin 2048) (c : Fin 128) :
    k0_pay16 (F := Ideal) X2 k0_pay6 (k0_pay10 X0 m0 s0 s0 s0) (k0_pay11 X1 m1) (k0_pay12 s1) s1 s1 m2 s2 s2 s2 (ix2 r c)
      = if c.val % 4 = 0 then gW m s (x (wk r c)) else 0 := by
  unfold k0_pay16
  rw [select_base]
  split
  · rename_i hc
    exact gV_at h0 h1 h2 hm0 hm1 hm2 hs0 hs1 hs2 r c hc
  · pointwise

/-- The step's acceptance as a vector. -/
def acceptV (X0 X1 X2 : FVec Ideal S2048x128 .f32) (m0 m1 m2 s0 s1 s2 : Vec Ideal S1x1 .f32) (u : Vec Ideal S1x2048x128 .f32) :
    IVec S2048x128 1 :=
  k0_pay17 (k0_pay14 X2 k0_pay6 (fV X0 X1 X2) (k0_pay10 X0 m0 s0 s0 s0) (k0_pay11 X1 m1) (k0_pay12 s1) s1 s1 m2 s2 s2 s2)
    (k0_pay15 k0_pay6 (fV X0 X1 X2))
    (k0_pay16 X2 k0_pay6 (k0_pay10 X0 m0 s0 s0 s0) (k0_pay11 X1 m1) (k0_pay12 s1) s1 s1 m2 s2 s2 s2) u

include h0 h1 h2 hm0 hm1 hm2 hs0 hs1 hs2 in
/-- Every lane decides as its walker does. -/
theorem acceptV_at (u : Vec Ideal S1x2048x128 .f32) (uw : Wk → EReal) (r : Fin 2048) (c : Fin 128) (hu : u (ix3 0 r c) = uw (wk r c)) :
    acceptV X0 X1 X2 m0 m1 m2 s0 s1 s2 u (ix2 r c) = accept m s x uw (wk r c) := by
  unfold acceptV
  rw [accept_at (F := fun w => fW (x w)) (G := fun w => gW m s (x w)) (baseF_at h0 h1 h2) (baseG_at h0 h1 h2 hm0 hm1 hm2 hs0 hs1 hs2), ratio_at h0 h1 h2 hm0 hm1 hm2 hs0 hs1 hs2, hu]
  rfl

end

end Cert.KernelIdeal.Value
end
-- ==== Proof.KernelStep.lean ====
/- What one point of the grid after the first leaves: the scratch array's means and deviations, and the positions, in the terms of the plain
   step. -/
module

public import proofs.«01_k».proof.Proof.Gen.KernelIdeal.Frame
public import proofs.«01_k».proof.Proof.KernelPoint
public import Idealize.ShloMosaic.Lib.Pipeline.ValueKit
public import Idealize.ShloMosaic.Lib.Pipeline.ReadBack
public import Idealize.ShloMosaic.Lib.Pipeline.FrameBody
public import Idealize.ShloMosaic.Lib.WritesUnit

@[expose] public section

set_option maxRecDepth 16384

noncomputable section

namespace Cert.KernelIdeal.Value

open Cert.KernelIdeal Cert.KernelIdeal.Gen Idealize.ShloMosaic Idealize.ShloMosaic.TcCoe Idealize.SL.Sem Cert.Sampler

variable (m : (ℓ : Loc nD τ sig) → Buf (Elt Ideal) ℓ)

/-! ## What a point reads -/

/-- The mean of the first direction, loaded from the scratch. -/
def mu0 (S : Vec Ideal S2x128 .f32) : Vec Ideal S1x1 .f32 := View.ld S (Rect.unit ![0, 0] ![1, 1] inb_S2x128_S1x1_0_0)
/-- The mean of the second direction, loaded from the scratch. -/
def mu1 (S : Vec Ideal S2x128 .f32) : Vec Ideal S1x1 .f32 := View.ld S (Rect.unit ![0, 1] ![1, 1] inb_S2x128_S1x1_0_1)
/-- The mean of the third direction, loaded from the scratch. -/
def mu2 (S : Vec Ideal S2x128 .f32) : Vec Ideal S1x1 .f32 := View.ld S (Rect.unit ![0, 2] ![1, 1] inb_S2x128_S1x1_0_2)
/-- The deviation of the first direction, loaded from the scratch. -/
def sd0 (S : Vec Ideal S2x128 .f32) : Vec Ideal S1x1 .f32 := View.ld S (Rect.unit ![1, 0] ![1, 1] inb_S2x128_S1x1_1_0)
/-- The deviation of the second direction, loaded from the scratch. -/
def sd1 (S : Vec Ideal S2x128 .f32) : Vec Ideal S1x1 .f32 := View.ld S (Rect.unit ![1, 1] ![1, 1] inb_S2x128_S1x1_1_1)
/-- The deviation of the third direction, loaded from the scratch. -/
def sd2 (S : Vec Ideal S2x128 .f32) : Vec Ideal S1x1 .f32 := View.ld S (Rect.unit ![1, 2] ![1, 1] inb_S2x128_S1x1_1_2)
/-- The proposals of the first direction, lane by lane. -/
def X0 (S : Vec Ideal S2x128 .f32) (Z : Vec Ideal S3x1x2048x128 .f32) : FVec Ideal S2048x128 .f32 :=
  k0_pay41 (mu0 S) (sd0 S) (View.ld Z (Rect.unit ![0, 0, 0, 0] ![1, 1, 2048, 128] inb_S3x1x2048x128_S1x1x2048x128_0_0_0_0))
/-- The proposals of the second direction, lane by lane. -/
def X1 (S : Vec Ideal S2x128 .f32) (Z : Vec Ideal S3x1x2048x128 .f32) : FVec Ideal S2048x128 .f32 :=
  k0_pay42 (mu1 S) (sd1 S) (View.ld Z (Rect.unit ![1, 0, 0, 0] ![1, 1, 2048, 128] inb_S3x1x2048x128_S1x1x2048x128_1_0_0_0))
/-- The proposals of the third direction, lane by lane. -/
def X2 (S : Vec Ideal S2x128 .f32) (Z : Vec Ideal S3x1x2048x128 .f32) : FVec Ideal S2048x128 .f32 :=
  k0_pay43 (mu2 S) (sd2 S) (View.ld Z (Rect.unit ![2, 0, 0, 0] ![1, 1, 2048, 128] inb_S3x1x2048x128_S1x1x2048x128_2_0_0_0))
/-- The target's density, lane by lane. -/
def fS (S : Vec Ideal S2x128 .f32) (Z : Vec Ideal S3x1x2048x128 .f32) : FVec Ideal S2048x128 .f32 := fV (X0 S Z) (X1 S Z) (X2 S Z)
/-- The proposal's density, lane by lane. -/
def gS (S : Vec Ideal S2x128 .f32) (Z : Vec Ideal S3x1x2048x128 .f32) : FVec Ideal S2048x128 .f32 :=
  gV (X0 S Z) (X1 S Z) (X2 S Z) (mu0 S) (mu1 S) (mu2 S) (sd0 S) (sd1 S) (sd2 S)

/-- The scratch array a point leaves, from the one it found. -/
def scratchStep (S : Vec Ideal S2x128 .f32) (Z : Vec Ideal S3x1x2048x128 .f32) : Vec Ideal S2x128 .f32 :=
  View.read (Elt Ideal) (View.whole cc0_scratch0) ((View.whole cc0_scratch0).writes (Elt Ideal) ((Memref.isWhole_whole cc0_scratch0).unread S) [
    ⟨Rect.unit ![1, 2] ![1, 1] inb_S2x128_S1x1_1_2, k0_pay5 (k0_pay38 (X2 S Z) (k0_pay21 k0_pay6 (fS S Z) (gS S Z)) (k0_pay22 k0_pay6 (fS S Z) (gS S Z)) (sd2 S) (mu2 S)) (sd2 S)⟩,
    ⟨Rect.unit ![0, 2] ![1, 1] inb_S2x128_S1x1_0_2, k0_pay4 (k0_pay37 (X2 S Z) (k0_pay21 k0_pay6 (fS S Z) (gS S Z)) (sd2 S) (mu2 S)) (mu2 S)⟩,
    ⟨Rect.unit ![1, 1] ![1, 1] inb_S2x128_S1x1_1_1, k0_pay34 (k0_pay32 (X1 S Z) (k0_pay21 k0_pay6 (fS S Z) (gS S Z)) (k0_pay22 k0_pay6 (fS S Z) (gS S Z)) (sd1 S) (mu1 S)) (sd1 S)⟩,
    ⟨Rect.unit ![0, 1] ![1, 1] inb_S2x128_S1x1_0_1, k0_pay33 (k0_pay31 (X1 S Z) (k0_pay21 k0_pay6 (fS S Z) (gS S Z)) (sd1 S) (mu1 S)) (mu1 S)⟩,
    ⟨Rect.unit ![1, 0] ![1, 1] inb_S2x128_S1x1_1_0, k0_pay28 (k0_pay26 (X0 S Z) k0_pay6 (fS S Z) (gS S Z) (sd0 S) (mu0 S)) (sd0 S)⟩,
    ⟨Rect.unit ![0, 0] ![1, 1] inb_S2x128_S1x1_0_0, k0_pay27 (k0_pay25 (X0 S Z) k0_pay6 (fS S Z) (gS S Z) (sd0 S) (mu0 S)) (mu0 S)⟩])

/-- A later point leaves one step of the scratch that the point before left. -/
theorem scratch_B (c : Dev nD) (t : Fin cfg0.N) (h0 : ¬t.val % 17 = 0) (h2 : 1 ≤ t.val) :
    (outsAt0 m c t.val t.isLt).2 = scratchStep (outsAt0 m c (t.val - 1) (by omega)).2 (iblk m c 2 t) := by
  conv_lhs => rw [outsAt0_B m c t h0 h0 h2]
  dsimp only
  frame_open
  simp (disch := decide) only [↓ View.readCov_skip, ↓ View.readCov_cons_toLoadRect, ↓ View.readCov_fill]
  frame_out
  simp only [read_unread_whole]
  rfl

/-- The largest ratio as the kernel computes it. -/
def ratioS (S : Vec Ideal S2x128 .f32) (Z : Vec Ideal S3x1x2048x128 .f32) : EReal :=
  k0_pay14 (X2 S Z) k0_pay6 (fS S Z) (k0_pay10 (X0 S Z) (mu0 S) (sd0 S) (sd0 S) (sd0 S)) (k0_pay11 (X1 S Z) (mu1 S)) (k0_pay12 (sd1 S))
    (sd1 S) (sd1 S) (mu2 S) (sd2 S) (sd2 S) (sd2 S)

/-- The proposal's density on the lanes of whole walkers. -/
def baseGS (S : Vec Ideal S2x128 .f32) (Z : Vec Ideal S3x1x2048x128 .f32) : FVec Ideal S2048x128 .f32 :=
  k0_pay16 (X2 S Z) k0_pay6 (k0_pay10 (X0 S Z) (mu0 S) (sd0 S) (sd0 S) (sd0 S)) (k0_pay11 (X1 S Z) (mu1 S)) (k0_pay12 (sd1 S))
    (sd1 S) (sd1 S) (mu2 S) (sd2 S) (sd2 S) (sd2 S)

/-- The positions a point leaves, from the scratch array and the positions it found. -/
def outStep (S : Vec Ideal S2x128 .f32) (Z : Vec Ideal S3x1x2048x128 .f32) (U : Vec Ideal S1x2048x128 .f32) (O : Vec Ideal S3x2048x128 .f32) :
    Vec Ideal S3x2048x128 .f32 :=
  View.canon (Val := Elt Ideal) [
    ⟨Rect.unit ![2, 0, 0] ![1, 2048, 128] inb_S3x2048x128_S1x2048x128_2_0_0,
      k0_pay20 (X2 S Z) (k0_pay17 (ratioS S Z) (k0_pay15 k0_pay6 (fS S Z)) (baseGS S Z) U)
        (View.ld O (Rect.unit ![2, 0, 0] ![1, 2048, 128] inb_S3x2048x128_S1x2048x128_2_0_0))⟩,
    ⟨Rect.unit ![1, 0, 0] ![1, 2048, 128] inb_S3x2048x128_S1x2048x128_1_0_0,
      k0_pay19 (X1 S Z) (ratioS S Z) (k0_pay15 k0_pay6 (fS S Z)) (baseGS S Z) U
        (View.ld O (Rect.unit ![1, 0, 0] ![1, 2048, 128] inb_S3x2048x128_S1x2048x128_1_0_0))⟩,
    ⟨Rect.unit ![0, 0, 0] ![1, 2048, 128] inb_S3x2048x128_S1x2048x128_0_0_0,
      k0_pay18 (X0 S Z) (ratioS S Z) (k0_pay15 k0_pay6 (fS S Z)) (baseGS S Z) U
        (View.ld O (Rect.unit ![0, 0, 0] ![1, 2048, 128] inb_S3x2048x128_S1x2048x128_0_0_0))⟩]

/-- A later point leaves one step of the positions that the point before left. -/
theorem out_B (c : Dev nD) (t : Fin cfg0.N) (h0 : ¬t.val % 17 = 0) (h2 : 1 ≤ t.val) :
    (outsAt0 m c t.val t.isLt).1
      = outStep (outsAt0 m c (t.val - 1) (by omega)).2 (iblk m c 2 t) (iblk m c 3 t) (outsAt0 m c (t.val - 1) (by omega)).1 := by
  conv_lhs => rw [outsAt0_B m c t h0 h0 h2]
  dsimp only
  frame_open
  simp (disch := decide) only [↓ View.readCov_skip, ↓ View.readCov_cons_toLoadRect, ↓ View.readCov_fill]
  frame_out
  simp only [read_unread_whole]
  simp only [outStep, ratioS, baseGS, fS, fV, X0, X1, X2, mu0, mu1, mu2, sd0, sd1, sd2]

/-- The scratch array the first point leaves: the means and the deviations, each row followed by zeros. -/
def scratchStart (M D : Vec Ideal S1x3 .f32) : Vec Ideal S2x128 .f32 :=
  View.canon (Val := Elt Ideal) [
    ⟨Rect.unit ![1, 0] ![1, 128] inb_S2x128_S1x128_1_0, k0_pay40 D⟩,
    ⟨Rect.unit ![0, 0] ![1, 128] inb_S2x128_S1x128_0_0, k0_pay39 M⟩]

/-- The first point leaves the start of the scratch. -/
theorem scratch_A (c : Dev nD) (t : Fin cfg0.N) (h0 : t.val % 17 = 0) (h2 : ¬1 ≤ t.val) :
    (outsAt0 m c t.val t.isLt).2 = scratchStart (iblk m c 0 t) (iblk m c 1 t) := by
  conv_lhs => rw [outsAt0_A m c t h0 h0 h2]
  dsimp only
  frame_open
  frame_out

/-- The positions the first point leaves: the proposals. -/
def outStart (S : Vec Ideal S2x128 .f32) (Z : Vec Ideal S3x1x2048x128 .f32) : Vec Ideal S3x2048x128 .f32 :=
  View.canon (Val := Elt Ideal) [
    ⟨Rect.unit ![2, 0, 0] ![1, 2048, 128] inb_S3x2048x128_S1x2048x128_2_0_0, k0_pay3 (X2 S Z)⟩,
    ⟨Rect.unit ![1, 0, 0] ![1, 2048, 128] inb_S3x2048x128_S1x2048x128_1_0_0, k0_pay2 (X1 S Z)⟩,
    ⟨Rect.unit ![0, 0, 0] ![1, 2048, 128] inb_S3x2048x128_S1x2048x128_0_0_0, k0_pay1 (X0 S Z)⟩]

/-- The first point leaves the start of the positions. -/
theorem out_A (c : Dev nD) (t : Fin cfg0.N) (h0 : t.val % 17 = 0) (h2 : ¬1 ≤ t.val) :
    (outsAt0 m c t.val t.isLt).1 = outStart (scratchStart (iblk m c 0 t) (iblk m c 1 t)) (iblk m c 2 t) := by
  conv_lhs => rw [outsAt0_A m c t h0 h0 h2]
  dsimp only
  frame_open
  frame_out
  simp only [View.readCov_eq_canon']
  rfl

/-! ## The scratch array, entry by entry -/

section
variable {S : Vec Ideal S2x128 .f32} {Z : Vec Ideal S3x1x2048x128 .f32} {x : Wk → Fin 12 → EReal} {mn sg : Fin 3 → EReal} {z : Wk → Fin 12 → EReal}

variable (hm0 : S (ix2 0 0) = mn 0) (hm1 : S (ix2 0 1) = mn 1) (hm2 : S (ix2 0 2) = mn 2)
  (hs0 : S (ix2 1 0) = sg 0) (hs1 : S (ix2 1 1) = sg 1) (hs2 : S (ix2 1 2) = sg 2)
  (hz : ∀ i r c, Z (ix4 i 0 r c) = z (wk r c) (co c i))

theorem mu0_at (h : S (ix2 0 0) = mn 0) : mu0 S (ix2 0 0) = mn 0 := by
  refine Eq.trans (congrArg S ?_) h
  funext a
  match a with
  | 0 => rfl
  | 1 => rfl

theorem mu1_at (h : S (ix2 0 1) = mn 1) : mu1 S (ix2 0 0) = mn 1 := by
  refine Eq.trans (congrArg S ?_) h
  funext a
  match a with
  | 0 => rfl
  | 1 => rfl

theorem mu2_at (h : S (ix2 0 2) = mn 2) : mu2 S (ix2 0 0) = mn 2 := by
  refine Eq.trans (congrArg S ?_) h
  funext a
  match a with
  | 0 => rfl
  | 1 => rfl

theorem sd0_at (h : S (ix2 1 0) = sg 0) : sd0 S (ix2 0 0) = sg 0 := by
  refine Eq.trans (congrArg S ?_) h
  funext a
  match a with
  | 0 => rfl
  | 1 => rfl

theorem sd1_at (h : S (ix2 1 1) = sg 1) : sd1 S (ix2 0 0) = sg 1 := by
  refine Eq.trans (congrArg S ?_) h
  funext a
  match a with
  | 0 => rfl
  | 1 => rfl

theorem sd2_at (h : S (ix2 1 2) = sg 2) : sd2 S (ix2 0 0) = sg 2 := by
  refine Eq.trans (congrArg S ?_) h
  funext a
  match a with
  | 0 => rfl
  | 1 => rfl

include hm0 hs0 hz in
/-- A lane of the first direction holds its walker's proposal. -/
theorem X0_at (r : Fin 2048) (c : Fin 128) : X0 S Z (ix2 r c) = prop mn sg z (wk r c) (co c 0) := by
  unfold X0
  rw [prop0_at, mu0_at hm0, sd0_at hs0]
  have e : View.ld Z (Rect.unit ![0, 0, 0, 0] ![1, 1, 2048, 128] inb_S3x1x2048x128_S1x1x2048x128_0_0_0_0) (ix4 0 0 r c) = z (wk r c) (co c 0) := by
    refine Eq.trans (congrArg Z ?_) (hz 0 r c)
    funext a
    match a with
    | 0 => rfl
    | 1 => rfl
    | 2 => exact Fin.ext (by show 0 + 1 * r.val = r.val; omega)
    | 3 => exact Fin.ext (by show 0 + 1 * c.val = c.val; omega)
  rw [e]
  have q : (co c 0).val % 3 = 0 := by show (3 * (c.val % 4) + 0) % 3 = 0; omega
  unfold prop
  have q' : (⟨(co c 0).val % 3, by omega⟩ : Fin 3) = 0 := Fin.ext q
  rw [q']

include hm1 hs1 hz in
/-- A lane of the second direction holds its walker's proposal. -/
theorem X1_at (r : Fin 2048) (c : Fin 128) : X1 S Z (ix2 r c) = prop mn sg z (wk r c) (co c 1) := by
  unfold X1
  rw [prop1_at, mu1_at hm1, sd1_at hs1]
  have e : View.ld Z (Rect.unit ![1, 0, 0, 0] ![1, 1, 2048, 128] inb_S3x1x2048x128_S1x1x2048x128_1_0_0_0) (ix4 0 0 r c) = z (wk r c) (co c 1) := by
    refine Eq.trans (congrArg Z ?_) (hz 1 r c)
    funext a
    match a with
    | 0 => rfl
    | 1 => rfl
    | 2 => exact Fin.ext (by show 0 + 1 * r.val = r.val; omega)
    | 3 => exact Fin.ext (by show 0 + 1 * c.val = c.val; omega)
  rw [e]
  have q : (co c 1).val % 3 = 1 := by show (3 * (c.val % 4) + 1) % 3 = 1; omega
  unfold prop
  have q' : (⟨(co c 1).val % 3, by omega⟩ : Fin 3) = 1 := Fin.ext q
  rw [q']

include hm2 hs2 hz in
/-- A lane of the third direction holds its walker's proposal. -/
theorem X2_at (r : Fin 2048) (c : Fin 128) : X2 S Z (ix2 r c) = prop mn sg z (wk r c) (co c 2) := by
  unfold X2
  rw [prop2_at, mu2_at hm2, sd2_at hs2]
  have e : View.ld Z (Rect.unit ![2, 0, 0, 0] ![1, 1, 2048, 128] inb_S3x1x2048x128_S1x1x2048x128_2_0_0_0) (ix4 0 0 r c) = z (wk r c) (co c 2) := by
    refine Eq.trans (congrArg Z ?_) (hz 2 r c)
    funext a
    match a with
    | 0 => rfl
    | 1 => rfl
    | 2 => exact Fin.ext (by show 0 + 1 * r.val = r.val; omega)
    | 3 => exact Fin.ext (by show 0 + 1 * c.val = c.val; omega)
  rw [e]
  have q : (co c 2).val % 3 = 2 := by show (3 * (c.val % 4) + 2) % 3 = 2; omega
  unfold prop
  have q' : (⟨(co c 2).val % 3, by omega⟩ : Fin 3) = 2 := Fin.ext q
  rw [q']

include hm0 hm1 hm2 hs0 hs1 hs2 hz in
/-- The step leaves the next deviation of the third direction in the scratch. -/
theorem scratchStep_12 : scratchStep S Z (ix2 1 2) = nextDev mn sg (prop mn sg z) 2 := by
  unfold scratchStep
  refine (View.read_writes_cons_unit_of_mem _ _ _ _ _ _ (ix2 0 0) rfl (by decide)).trans ?_
  exact dev2_at (X0_at hm0 hs0 hz) (X1_at hm1 hs1 hz) (X2_at hm2 hs2 hz) (mu0_at hm0) (mu1_at hm1) (mu2_at hm2) (sd0_at hs0) (sd1_at hs1) (sd2_at hs2)

include hm0 hm1 hm2 hs0 hs1 hs2 hz in
/-- The step leaves the next mean of the third direction in the scratch. -/
theorem scratchStep_02 : scratchStep S Z (ix2 0 2) = nextMean mn sg (prop mn sg z) 2 := by
  unfold scratchStep
  refine (View.read_writes_cons_unit_of_not_mem _ _ _ _ _ _ rfl (0 : Fin 2) (by decide)).trans ?_
  refine (View.read_writes_cons_unit_of_mem _ _ _ _ _ _ (ix2 0 0) rfl (by decide)).trans ?_
  exact mean2_at (X0_at hm0 hs0 hz) (X1_at hm1 hs1 hz) (X2_at hm2 hs2 hz) (mu0_at hm0) (mu1_at hm1) (mu2_at hm2) (sd0_at hs0) (sd1_at hs1) (sd2_at hs2)

include hm0 hm1 hm2 hs0 hs1 hs2 hz in
/-- The step leaves the next deviation of the second direction in the scratch. -/
theorem scratchStep_11 : scratchStep S Z (ix2 1 1) = nextDev mn sg (prop mn sg z) 1 := by
  unfold scratchStep
  refine (View.read_writes_cons_unit_of_not_mem _ _ _ _ _ _ rfl (1 : Fin 2) (by decide)).trans ?_
  refine (View.read_writes_cons_unit_of_not_mem _ _ _ _ _ _ rfl (0 : Fin 2) (by decide)).trans ?_
  refine (View.read_writes_cons_unit_of_mem _ _ _ _ _ _ (ix2 0 0) rfl (by decide)).trans ?_
  exact dev1_at (X0_at hm0 hs0 hz) (X1_at hm1 hs1 hz) (X2_at hm2 hs2 hz) (mu0_at hm0) (mu1_at hm1) (mu2_at hm2) (sd0_at hs0) (sd1_at hs1) (sd2_at hs2)

include hm0 hm1 hm2 hs0 hs1 hs2 hz in
/-- The step leaves the next mean of the second direction in the scratch. -/
theorem scratchStep_01 : scratchStep S Z (ix2 0 1) = nextMean mn sg (prop mn sg z) 1 := by
  unfold scratchStep
  refine (View.read_writes_cons_unit_of_not_mem _ _ _ _ _ _ rfl (0 : Fin 2) (by decide)).trans ?_
  refine (View.read_writes_cons_unit_of_not_mem _ _ _ _ _ _ rfl (1 : Fin 2) (by decide)).trans ?_
  refine (View.read_writes_cons_unit_of_not_mem _ _ _ _ _ _ rfl (0 : Fin 2) (by decide)).trans ?_
  refine (View.read_writes_cons_unit_of_mem _ _ _ _ _ _ (ix2 0 0) rfl (by decide)).trans ?_
  exact mean1_at (X0_at hm0 hs0 hz) (X1_at hm1 hs1 hz) (X2_at hm2 hs2 hz) (mu0_at hm0) (mu1_at hm1) (mu2_at hm2) (sd0_at hs0) (sd1_at hs1) (sd2_at hs2)

include hm0 hm1 hm2 hs0 hs1 hs2 hz in
/-- The step leaves the next deviation of the first direction in the scratch. -/
theorem scratchStep_10 : scratchStep S Z (ix2 1 0) = nextDev mn sg (prop mn sg z) 0 := by
  unfold scratchStep
  refine (View.read_writes_cons_unit_of_not_mem _ _ _ _ _ _ rfl (1 : Fin 2) (by decide)).trans ?_
  refine (View.read_writes_cons_unit_of_not_mem _ _ _ _ _ _ rfl (0 : Fin 2) (by decide)).trans ?_
  refine (View.read_writes_cons_unit_of_not_mem _ _ _ _ _ _ rfl (1 : Fin 2) (by decide)).trans ?_
  refine (View.read_writes_cons_unit_of_not_mem _ _ _ _ _ _ rfl (0 : Fin 2) (by decide)).trans ?_
  refine (View.read_writes_cons_unit_of_mem _ _ _ _ _ _ (ix2 0 0) rfl (by decide)).trans ?_
  exact dev0_at (X0_at hm0 hs0 hz) (X1_at hm1 hs1 hz) (X2_at hm2 hs2 hz) (mu0_at hm0) (mu1_at hm1) (mu2_at hm2) (sd0_at hs0) (sd1_at hs1) (sd2_at hs2)

include hm0 hm1 hm2 hs0 hs1 hs2 hz in
/-- The step leaves the next mean of the first direction in the scratch. -/
theorem scratchStep_00 : scratchStep S Z (ix2 0 0) = nextMean mn sg (prop mn sg z) 0 := by
  unfold scratchStep
  refine (View.read_writes_cons_unit_of_not_mem _ _ _ _ _ _ rfl (0 : Fin 2) (by decide)).trans ?_
  refine (View.read_writes_cons_unit_of_not_mem _ _ _ _ _ _ rfl (1 : Fin 2) (by decide)).trans ?_
  refine (View.read_writes_cons_unit_of_not_mem _ _ _ _ _ _ rfl (0 : Fin 2) (by decide)).trans ?_
  refine (View.read_writes_cons_unit_of_not_mem _ _ _ _ _ _ rfl (1 : Fin 2) (by decide)).trans ?_
  refine (View.read_writes_cons_unit_of_not_mem _ _ _ _ _ _ rfl (0 : Fin 2) (by decide)).trans ?_
  refine (View.read_writes_cons_unit_of_mem _ _ _ _ _ _ (ix2 0 0) rfl (by decide)).trans ?_
  exact mean0_at (X0_at hm0 hs0 hz) (X1_at hm1 hs1 hz) (X2_at hm2 hs2 hz) (mu0_at hm0) (mu1_at hm1) (mu2_at hm2) (sd0_at hs0) (sd1_at hs1) (sd2_at hs2)

end

end Cert.KernelIdeal.Value
end
-- ==== Proof.KernelRead.lean ====
/- The positions, and the contents after the first point, entry by entry. -/
module

public import proofs.«01_k».proof.Proof.KernelStep

@[expose] public section

set_option maxRecDepth 16384

noncomputable section

namespace Cert.KernelIdeal.Value

open Cert.KernelIdeal Cert.KernelIdeal.Gen Idealize.ShloMosaic Idealize.ShloMosaic.TcCoe Idealize.SL.Sem Cert.Sampler

/-- An index in the newest piece's box reads that piece. -/
theorem canon_hit {s : Shape} {off size : Fin s.rank → ℕ} (inb : ∀ a, off a + size a ≤ s.size a)
    (w : (Rect.unit off size inb).shape.Idx → EReal) (L : List (View.Piece (Elt Ideal) s .f32)) (y : s.Idx)
    (x : (Rect.unit off size inb).shape.Idx) (hx : ∀ a, (y a).val = off a + (x a).val) :
    View.canon (Val := Elt Ideal) (e := .f32) (⟨Rect.unit off size inb, w⟩ :: L) y = w x := by
  have hy : (Rect.unit off size inb).emb x = y := funext fun a => Fin.ext (by
    show off a + 1 * (x a).val = (y a).val
    rw [hx a, Nat.one_mul])
  subst hy
  exact View.canon_cons_emb _ _ _ x

/-- An index that misses the newest piece's box on an axis reads the rest. -/
theorem canon_miss {s : Shape} {off size : Fin s.rank → ℕ} (inb : ∀ a, off a + size a ≤ s.size a)
    (w : (Rect.unit off size inb).shape.Idx → EReal) (L : List (View.Piece (Elt Ideal) s .f32)) (y : s.Idx)
    (a : Fin s.rank) (ha : (y a).val < off a ∨ off a + size a ≤ (y a).val) :
    View.canon (Val := Elt Ideal) (e := .f32) (⟨Rect.unit off size inb, w⟩ :: L) y = View.canon (Val := Elt Ideal) L y := by
  refine View.canon_cons_of_not_mem _ _ ?_
  rw [Rect.mem_set_unit]
  intro h
  have := h a
  omega

/-- Reading layer `k` of the positions, newest piece first. -/
theorem layer_hit {i : ℕ} (inb : ∀ a : Fin 3, (![i, 0, 0] : Fin 3 → ℕ) a + (![1, 2048, 128] : Fin 3 → ℕ) a ≤ S3x2048x128.size a)
    (w : Vec Ideal S1x2048x128 .f32) (L : List (View.Piece (Elt Ideal) S3x2048x128 .f32)) (j : Fin 3) (hj : j.val = i)
    (r : Fin 2048) (c : Fin 128) :
    View.canon (Val := Elt Ideal) (e := .f32) (⟨Rect.unit ![i, 0, 0] ![1, 2048, 128] inb, w⟩ :: L) (ix3 j r c) = w (ix3 0 r c) := by
  refine canon_hit (s := S3x2048x128) inb w L (ix3 j r c) (ix3 (0 : Fin 1) r c) fun a => ?_
  match a with
  | 0 => exact hj
  | 1 => exact (Nat.zero_add _).symm
  | 2 => exact (Nat.zero_add _).symm

theorem layer_miss {i : ℕ} (inb : ∀ a : Fin 3, (![i, 0, 0] : Fin 3 → ℕ) a + (![1, 2048, 128] : Fin 3 → ℕ) a ≤ S3x2048x128.size a)
    (w : Vec Ideal S1x2048x128 .f32) (L : List (View.Piece (Elt Ideal) S3x2048x128 .f32)) (j : Fin 3) (hj : j.val < i)
    (r : Fin 2048) (c : Fin 128) :
    View.canon (Val := Elt Ideal) (e := .f32) (⟨Rect.unit ![i, 0, 0] ![1, 2048, 128] inb, w⟩ :: L) (ix3 j r c)
      = View.canon (Val := Elt Ideal) L (ix3 j r c) :=
  canon_miss (s := S3x2048x128) inb w L (ix3 j r c) (0 : Fin 3) (.inl hj)

/-- Reading a row of the scratch array, newest piece first. -/
theorem row_hit {i : ℕ} (inb : ∀ a : Fin 2, (![i, 0] : Fin 2 → ℕ) a + (![1, 128] : Fin 2 → ℕ) a ≤ S2x128.size a)
    (w : Vec Ideal S1x128 .f32) (L : List (View.Piece (Elt Ideal) S2x128 .f32)) (j : Fin 2) (hj : j.val = i) (c : Fin 128) :
    View.canon (Val := Elt Ideal) (e := .f32) (⟨Rect.unit ![i, 0] ![1, 128] inb, w⟩ :: L) (ix2 j c) = w (ix2 0 c) := by
  refine canon_hit (s := S2x128) inb w L (ix2 j c) (ix2 (0 : Fin 1) c) fun a => ?_
  match a with
  | 0 => exact hj
  | 1 => exact (Nat.zero_add _).symm

theorem row_miss {i : ℕ} (inb : ∀ a : Fin 2, (![i, 0] : Fin 2 → ℕ) a + (![1, 128] : Fin 2 → ℕ) a ≤ S2x128.size a)
    (w : Vec Ideal S1x128 .f32) (L : List (View.Piece (Elt Ideal) S2x128 .f32)) (j : Fin 2) (hj : j.val < i) (c : Fin 128) :
    View.canon (Val := Elt Ideal) (e := .f32) (⟨Rect.unit ![i, 0] ![1, 128] inb, w⟩ :: L) (ix2 j c)
      = View.canon (Val := Elt Ideal) L (ix2 j c) :=
  canon_miss (s := S2x128) inb w L (ix2 j c) (0 : Fin 2) (.inl hj)

/-! ## After the first point -/

section
variable {M D : Vec Ideal S1x3 .f32}

theorem padM_at (i : Fin 3) : k0_pay39 (F := Ideal) M (ix2 0 ⟨i.val, by omega⟩) = M (ix2 0 i) := by
  pointwise [k0_pay39]

theorem padD_at (i : Fin 3) : k0_pay40 (F := Ideal) D (ix2 0 ⟨i.val, by omega⟩) = D (ix2 0 i) := by
  pointwise [k0_pay40]

theorem scratchStart_mean (i : Fin 3) : scratchStart M D (ix2 0 ⟨i.val, by omega⟩) = M (ix2 0 i) :=
  (row_miss _ _ _ 0 (by decide) _).trans ((row_hit _ _ _ 0 rfl _).trans (padM_at i))

theorem scratchStart_dev (i : Fin 3) : scratchStart M D (ix2 1 ⟨i.val, by omega⟩) = D (ix2 0 i) :=
  (row_hit _ _ _ 1 rfl _).trans (padD_at i)
end

/-! ## The positions -/

section
variable {S : Vec Ideal S2x128 .f32} {Z : Vec Ideal S3x1x2048x128 .f32} {mn sg : Fin 3 → EReal} {z : Wk → Fin 12 → EReal}
  {U : Vec Ideal S1x2048x128 .f32} {O : Vec Ideal S3x2048x128 .f32} {u : Wk → EReal} {pos : Wk → Fin 12 → EReal}
variable (hm0 : S (ix2 0 0) = mn 0) (hm1 : S (ix2 0 1) = mn 1) (hm2 : S (ix2 0 2) = mn 2)
  (hs0 : S (ix2 1 0) = sg 0) (hs1 : S (ix2 1 1) = sg 1) (hs2 : S (ix2 1 2) = sg 2)
  (hz : ∀ i r c, Z (ix4 i 0 r c) = z (wk r c) (co c i))
  (hu : ∀ r c, U (ix3 0 r c) = u (wk r c))
  (ho : ∀ i r c, O (ix3 i r c) = pos (wk r c) (co c i))

theorem flat1 (X : FVec Ideal S2048x128 .f32) (r : Fin 2048) (c : Fin 128) : k0_pay1 (F := Ideal) X (ix3 0 r c) = X (ix2 r c) := by
  pointwise [k0_pay1]
theorem flat2 (X : FVec Ideal S2048x128 .f32) (r : Fin 2048) (c : Fin 128) : k0_pay2 (F := Ideal) X (ix3 0 r c) = X (ix2 r c) := by
  pointwise [k0_pay2]
theorem flat3 (X : FVec Ideal S2048x128 .f32) (r : Fin 2048) (c : Fin 128) : k0_pay3 (F := Ideal) X (ix3 0 r c) = X (ix2 r c) := by
  pointwise [k0_pay3]

include hm0 hm1 hm2 hs0 hs1 hs2 hz in
/-- The first point leaves the proposals. -/
theorem outStart_at (i : Fin 3) (r : Fin 2048) (c : Fin 128) :
    outStart S Z (ix3 i r c) = prop mn sg z (wk r c) (co c i) := by
  unfold outStart
  match i with
  | 2 => exact (layer_hit _ _ _ 2 rfl r c).trans ((flat3 _ r c).trans (X2_at hm2 hs2 hz r c))
  | 1 => exact (layer_miss _ _ _ 1 (by decide) r c).trans ((layer_hit _ _ _ 1 rfl r c).trans ((flat2 _ r c).trans (X1_at hm1 hs1 hz r c)))
  | 0 =>
    exact (layer_miss _ _ _ 0 (by decide) r c).trans ((layer_miss _ _ _ 0 (by decide) r c).trans
      ((layer_hit _ _ _ 0 rfl r c).trans ((flat1 _ r c).trans (X0_at hm0 hs0 hz r c))))

theorem pick0 (X : FVec Ideal S2048x128 .f32) (mx : EReal) (vf vg : FVec Ideal S2048x128 .f32) (A : Vec Ideal S1x2048x128 .f32)
    (r : Fin 2048) (c : Fin 128) :
    k0_pay18 (F := Ideal) X mx vf vg U A (ix3 0 r c) = if k0_pay17 (F := Ideal) mx vf vg U (ix2 r c) = 1#1 then X (ix2 r c) else A (ix3 0 r c) := by
  pointwise [k0_pay18]
  rfl

theorem pick1 (X : FVec Ideal S2048x128 .f32) (mx : EReal) (vf vg : FVec Ideal S2048x128 .f32) (A : Vec Ideal S1x2048x128 .f32)
    (r : Fin 2048) (c : Fin 128) :
    k0_pay19 (F := Ideal) X mx vf vg U A (ix3 0 r c) = if k0_pay17 (F := Ideal) mx vf vg U (ix2 r c) = 1#1 then X (ix2 r c) else A (ix3 0 r c) := by
  pointwise [k0_pay19]
  rfl

theorem pick2 (X : FVec Ideal S2048x128 .f32) (v : IVec S2048x128 1) (A : Vec Ideal S1x2048x128 .f32)
    (r : Fin 2048) (c : Fin 128) :
    k0_pay20 (F := Ideal) X v A (ix3 0 r c) = if v (ix2 r c) = 1#1 then X (ix2 r c) else A (ix3 0 r c) := by
  pointwise [k0_pay20]
  rfl

include hm0 hm1 hm2 hs0 hs1 hs2 hz hu in
theorem acceptS_at (r : Fin 2048) (c : Fin 128) :
    k0_pay17 (F := Ideal) (ratioS S Z) (k0_pay15 k0_pay6 (fS S Z)) (baseGS S Z) U (ix2 r c) = accept mn sg (prop mn sg z) u (wk r c) :=
  acceptV_at (X0_at hm0 hs0 hz) (X1_at hm1 hs1 hz) (X2_at hm2 hs2 hz) (mu0_at hm0) (mu1_at hm1) (mu2_at hm2) (sd0_at hs0) (sd1_at hs1)
    (sd2_at hs2) U u r c (hu r c)

include hm0 hm1 hm2 hs0 hs1 hs2 hz hu ho in
/-- A later point keeps a walker's positions or takes its proposals. -/
theorem outStep_at (i : Fin 3) (r : Fin 2048) (c : Fin 128) :
    outStep S Z U O (ix3 i r c) = nextPos mn sg (prop mn sg z) u pos (wk r c) (co c i) := by
  have hA := acceptS_at hm0 hm1 hm2 hs0 hs1 hs2 hz hu r c
  unfold outStep nextPos
  match i with
  | 2 =>
    refine (layer_hit _ _ _ 2 rfl r c).trans ((pick2 _ _ _ r c).trans ?_)
    · rw [hA, X2_at hm2 hs2 hz r c]
      have e : View.ld O (Rect.unit ![2, 0, 0] ![1, 2048, 128] inb_S3x2048x128_S1x2048x128_2_0_0) (ix3 0 r c) = pos (wk r c) (co c 2) := by
        refine Eq.trans (congrArg O ?_) (ho 2 r c)
        funext a
        match a with
        | 0 => rfl
        | 1 => exact Fin.ext (by show 0 + 1 * r.val = r.val; omega)
        | 2 => exact Fin.ext (by show 0 + 1 * c.val = c.val; omega)
      rw [e]
  | 1 =>
    refine (layer_miss _ _ _ 1 (by decide) r c).trans ?_
    refine (layer_hit _ _ _ 1 rfl r c).trans ((pick1 _ _ _ _ _ r c).trans ?_)
    · rw [hA, X1_at hm1 hs1 hz r c]
      have e : View.ld O (Rect.unit ![1, 0, 0] ![1, 2048, 128] inb_S3x2048x128_S1x2048x128_1_0_0) (ix3 0 r c) = pos (wk r c) (co c 1) := by
        refine Eq.trans (congrArg O ?_) (ho 1 r c)
        funext a
        match a with
        | 0 => rfl
        | 1 => exact Fin.ext (by show 0 + 1 * r.val = r.val; omega)
        | 2 => exact Fin.ext (by show 0 + 1 * c.val = c.val; omega)
      rw [e]
  | 0 =>
    refine (layer_miss _ _ _ 0 (by decide) r c).trans ?_
    refine (layer_miss _ _ _ 0 (by decide) r c).trans ?_
    refine (layer_hit _ _ _ 0 rfl r c).trans ((pick0 _ _ _ _ _ r c).trans ?_)
    · rw [hA, X0_at hm0 hs0 hz r c]
      have e : View.ld O (Rect.unit ![0, 0, 0] ![1, 2048, 128] inb_S3x2048x128_S1x2048x128_0_0_0) (ix3 0 r c) = pos (wk r c) (co c 0) := by
        refine Eq.trans (congrArg O ?_) (ho 0 r c)
        funext a
        match a with
        | 0 => rfl
        | 1 => exact Fin.ext (by show 0 + 1 * r.val = r.val; omega)
        | 2 => exact Fin.ext (by show 0 + 1 * c.val = c.val; omega)
      rw [e]

end

end Cert.KernelIdeal.Value
end
-- ==== Proof.KernelBlocks.lean ====
/- What the windows hold at a point: the mean and the deviation, the point's normal draws, and its uniform draws, read off the arguments. -/
module

public import proofs.«01_k».proof.Proof.KernelRead
public import Idealize.ShloMosaic.Lib.Pipeline.ValueKit.Point
public import Idealize.ShloMosaic.Lib.Claim
public import Idealize.ShloMosaic.Lib.StableHlo.ReadAt

@[expose] public section

set_option maxRecDepth 16384

noncomputable section

namespace Cert.KernelIdeal.Value

open Cert.KernelIdeal Cert.KernelIdeal.Gen Idealize.ShloMosaic Idealize.ShloMosaic.TcCoe Idealize.SL.Sem Cert.Sampler

variable (m : (ℓ : Loc nD τ sig) → Buf (Elt Ideal) ℓ)

/-- The arguments on core `c`. -/
def argMean (c : Dev nD) (i : Fin 3) : EReal := m ((c : Thread nD τ).loc main_arg0) (ix1 i)
/-- The first deviations. -/
def argDev (c : Dev nD) (i : Fin 3) : EReal := m ((c : Thread nD τ).loc main_arg1) (ix1 i)
/-- The normal draws. -/
def argZ (c : Dev nD) (k : Fin 17) (q : Fin 262144) (i : Fin 3) : EReal := m ((c : Thread nD τ).loc main_arg3) (ix3 k q i)
/-- The uniform draws. -/
def argU (c : Dev nD) (k : Fin 16) (w : Wk) : EReal := m ((c : Thread nD τ).loc main_arg4) (ix2 k w)

/-- Every point reads the one block of the mean. -/
theorem idx0 : ∀ t : Fin cfg0.N, win0_0.index t = ![0, 0] := by decide +kernel
/-- Every point reads the one block of the deviation. -/
theorem idx1 : ∀ t : Fin cfg0.N, win0_1.index t = ![0, 0] := by decide +kernel
/-- Point `t` reads normal draw `t`. -/
theorem idx2 : ∀ t : Fin cfg0.N, win0_2.index t = ![0, t.val, 0, 0] := by decide +kernel
/-- Point `t` reads uniform draw `t - 1`. -/
theorem idx3 : ∀ t : Fin cfg0.N, win0_3.index t = ![t.val - 1, 0, 0] := by decide +kernel

/-! ## The arrays that the host lays out before the kernel -/

/-- The mean as one row. -/
theorem arr_mean (c : Dev nD) (i : Fin 3) : V m c main_v5 (ix2 0 i) = argMean m c i := by
  show StableHlo.after hostOps0 _ _ _ = _
  after_reads_at
  rfl

/-- The deviation as one row. -/
theorem arr_dev (c : Dev nD) (i : Fin 3) : V m c main_v6 (ix2 0 i) = argDev m c i := by
  show StableHlo.after hostOps0 _ _ _ = _
  after_reads_at
  rfl

/-- The normal draws, one array of lanes per direction and draw. -/
theorem arr_z (c : Dev nD) (i : Fin 3) (k : Fin 17) (r : Fin 2048) (l : Fin 128) :
    V m c main_v1 (ix4 i k r l) = argZ m c k ⟨128 * r.val + l.val, by omega⟩ i := by
  show StableHlo.after hostOps0 _ _ _ = _
  after_reads_at
  exact congrArg (fun q => argZ m c k q i) (Fin.ext (by simp only []; omega))

/-- The uniform draws, one lane per electron. -/
theorem arr_u (c : Dev nD) (k : Fin 16) (r : Fin 2048) (l : Fin 128) :
    V m c main_v4 (ix3 k r l) = argU m c k (wk r l) := by
  show StableHlo.after hostOps0 _ _ _ = _
  after_reads_at
  exact congrArg (argU m c k) (Fin.ext (by simp only [wk]; omega))

/-! ## The blocks -/

/-- The mean that a point sees. -/
theorem blk0 (c : Dev nD) (t : Fin cfg0.N) (i : Fin 3) : iblk m c 0 t (ix2 0 i) = argMean m c i := by
  refine Eq.trans ?_ (arr_mean m c i)
  blk_ext [iblk, idx0]

/-- The deviation that a point sees. -/
theorem blk1 (c : Dev nD) (t : Fin cfg0.N) (i : Fin 3) : iblk m c 1 t (ix2 0 i) = argDev m c i := by
  refine Eq.trans ?_ (arr_dev m c i)
  blk_ext [iblk, idx1]

/-- The normal draws that a point sees. -/
theorem blk2 (c : Dev nD) (t : Fin cfg0.N) (i : Fin 3) (r : Fin 2048) (l : Fin 128) :
    iblk m c 2 t (ix4 i 0 r l) = zOf (argZ m c) t.val (wk r l) (co l i) := by
  have ht : t.val < 17 := t.isLt
  refine Eq.trans ?_ ((arr_z m c i ⟨t.val, ht⟩ r l).trans ?_)
  · blk_ext [iblk, idx2]
  · unfold zOf wk co
    congr 1 <;> (try apply Fin.ext) <;> simp only [] <;> omega

/-- The uniform draws that a point sees. -/
theorem blk3 (c : Dev nD) (t : Fin cfg0.N) (r : Fin 2048) (l : Fin 128) :
    iblk m c 3 t (ix3 0 r l) = uOf (argU m c) (t.val - 1) (wk r l) := by
  have ht : t.val < 17 := t.isLt
  refine Eq.trans ?_ ((arr_u m c ⟨t.val - 1, by omega⟩ r l).trans ?_)
  · blk_ext [iblk, idx3]
  · unfold uOf
    congr 1 <;> (try apply Fin.ext) <;> simp only [] <;> omega

end Cert.KernelIdeal.Value
end
-- ==== Proof.KernelRun.lean ====
/- What the kernel holds after each point, and what it leaves in its result: after point `k`, the state of the sampler after `k` steps. -/
module

public import proofs.«01_k».proof.Proof.KernelBlocks

@[expose] public section

set_option maxRecDepth 16384

noncomputable section

namespace Cert.KernelIdeal.Value

open Cert.KernelIdeal Cert.KernelIdeal.Gen Idealize.ShloMosaic Idealize.ShloMosaic.TcCoe Idealize.SL.Sem Cert.Sampler

variable (m : (ℓ : Loc nD τ sig) → Buf (Elt Ideal) ℓ)

/-- The sampler's state after `k` steps on core `c`. -/
def st (c : Dev nD) (k : ℕ) : State := run (argMean m c) (argDev m c) (zOf (argZ m c)) (uOf (argU m c)) k

/-- After a point the scratch holds the state's mean in row 0 and its deviation in row 1. -/
def HoldsScratch (S : S2x128.Idx → EReal) (σ : State) : Prop :=
  (S (ix2 0 0) = σ.mean 0 ∧ S (ix2 0 1) = σ.mean 1 ∧ S (ix2 0 2) = σ.mean 2) ∧
    S (ix2 1 0) = σ.dev 0 ∧ S (ix2 1 1) = σ.dev 1 ∧ S (ix2 1 2) = σ.dev 2

/-- After a point the result holds the state's positions. -/
def HoldsPos (O : S3x2048x128.Idx → EReal) (σ : State) : Prop :=
  ∀ i r l, O (ix3 i r l) = σ.pos (wk r l) (co l i)

/-- After point `k` the scratch and the result hold the state after `k` steps. -/
theorem holds (c : Dev nD) (k : ℕ) : ∀ hk : k < cfg0.N,
    HoldsScratch (outsAt0 m c k hk).2 (st m c k) ∧ HoldsPos (outsAt0 m c k hk).1 (st m c k) := by
  induction k with
  | zero =>
    intro hk
    have hS := scratch_A m c ⟨0, hk⟩ (by simp) (by simp)
    have hO := out_A m c ⟨0, hk⟩ (by simp) (by simp)
    have e0 := (scratchStart_mean (M := iblk m c 0 ⟨0, hk⟩) (D := iblk m c 1 ⟨0, hk⟩) 0).trans (blk0 m c ⟨0, hk⟩ 0)
    have e1 := (scratchStart_mean (M := iblk m c 0 ⟨0, hk⟩) (D := iblk m c 1 ⟨0, hk⟩) 1).trans (blk0 m c ⟨0, hk⟩ 1)
    have e2 := (scratchStart_mean (M := iblk m c 0 ⟨0, hk⟩) (D := iblk m c 1 ⟨0, hk⟩) 2).trans (blk0 m c ⟨0, hk⟩ 2)
    have f0 := (scratchStart_dev (M := iblk m c 0 ⟨0, hk⟩) (D := iblk m c 1 ⟨0, hk⟩) 0).trans (blk1 m c ⟨0, hk⟩ 0)
    have f1 := (scratchStart_dev (M := iblk m c 0 ⟨0, hk⟩) (D := iblk m c 1 ⟨0, hk⟩) 1).trans (blk1 m c ⟨0, hk⟩ 1)
    have f2 := (scratchStart_dev (M := iblk m c 0 ⟨0, hk⟩) (D := iblk m c 1 ⟨0, hk⟩) 2).trans (blk1 m c ⟨0, hk⟩ 2)
    refine ⟨?_, fun i r l => ?_⟩
    · rw [hS]
      exact ⟨⟨e0, e1, e2⟩, f0, f1, f2⟩
    · rw [hO]
      exact outStart_at (mn := argMean m c) (sg := argDev m c) (z := zOf (argZ m c) 0) e0 e1 e2 f0 f1 f2
        (blk2 m c ⟨0, hk⟩) i r l
  | succ k ih =>
    intro hk
    have hN : cfg0.N = 17 := N_0
    obtain ⟨⟨⟨m0, m1, m2⟩, s0, s1, s2⟩, hp⟩ := ih (by omega)
    have hS := scratch_B m c ⟨k + 1, hk⟩ (by simp only []; omega) (by simp)
    have hO := out_B m c ⟨k + 1, hk⟩ (by simp only []; omega) (by simp)
    have hz := blk2 m c ⟨k + 1, hk⟩
    refine ⟨?_, fun i r l => ?_⟩
    · rw [hS]
      exact ⟨⟨scratchStep_00 m0 m1 m2 s0 s1 s2 hz, scratchStep_01 m0 m1 m2 s0 s1 s2 hz, scratchStep_02 m0 m1 m2 s0 s1 s2 hz⟩,
        scratchStep_10 m0 m1 m2 s0 s1 s2 hz, scratchStep_11 m0 m1 m2 s0 s1 s2 hz, scratchStep_12 m0 m1 m2 s0 s1 s2 hz⟩
    · rw [hO]
      exact outStep_at m0 m1 m2 s0 s1 s2 hz (blk3 m c ⟨k + 1, hk⟩) hp i r l

/-! ## The result -/

/-- The last point. -/
def tLast : Fin grid0.N := ⟨16, by decide⟩

/-- The kernel's result array, at an index. -/
theorem arr_at (c : Dev nD) (i : Fin 3) (r : Fin 2048) (l : Fin 128) :
    (dats m 0 c).arrAt 4 cfg0.N (ix3 i r l) = (st m c 16).pos (wk r l) (co l i) := by
  have h : (dats m 0 c).arrAt 4 cfg0.N = (outsAt0 m c 16 (by decide)).1 := by
    refine (dats m 0 c).arrAt_eq_of_after_last 4 tLast (by decide +kernel) _ fun j => ?_
    blk_simp
    exact congrFun (after0_4 m c tLast) j
  rw [h]
  exact (holds m c 16 _).2 i r l

end Cert.KernelIdeal.Value
end
-- ==== Proof.KernelResult.lean ====
/- The kernel's run: its result is the positions of the sampler after the last step. -/
module

public import proofs.«01_k».proof.Proof.KernelRun

@[expose] public section

set_option maxRecDepth 16384

noncomputable section

namespace Cert.KernelIdeal.Value

open Cert.KernelIdeal Cert.KernelIdeal.Gen Idealize.ShloMosaic Idealize.ShloMosaic.TcCoe Idealize.SL.Sem Cert.Sampler

variable (m : (ℓ : Loc nD τ sig) → Buf (Elt Ideal) ℓ)

/-- The host's lines after the kernel move lane `(r, l)` of layer `i` to walker `wk r l`, column `co l i`. -/
theorem after_at (X : Valuation τ sig (Elt Ideal)) (w : Wk) (j : Fin 12) :
    StableHlo.after hostOps1 X (Proc.devRef .tc main_v10) (ix2 w j)
      = X (Proc.devRef .tc main_v7) (ix3 ⟨j.val % 3, by omega⟩ (rowOf w) (laneOf w ⟨j.val / 3, by omega⟩)) := by
  after_reads_at
  refine congrArg₂ (fun r l => X (Proc.devRef .tc main_v7) (ix3 ⟨j.val % 3, by omega⟩ r l)) (Fin.ext ?_) (Fin.ext ?_)
  all_goals
    simp only [rowOf, laneOf]
    omega

/-- The result after the host's lines, at a walker and a coordinate. -/
theorem result_at (c : Dev nD) (w : Wk) (j : Fin 12) :
    Pipeline.afterTail₀ cfgs (dats m) 0 (V0 m) [hostOps1] c main_v10 (ix2 w j) = (st m c 16).pos w j := by
  unfold Pipeline.afterTail₀
  rw [show ([hostOps1] : List (List (HloOp τ sig (Elt Ideal)))).flatten = hostOps1 from rfl]
  refine (after_at _ w j).trans ?_
  have h := Pipeline.withArrays_arr (cfgs 0).spec (by decide) c (V0 m c) (fun w => (dats m 0 c).arrAt w (cfgs 0).N) 4
  refine (congrFun h _).trans ((arr_at m c _ _ _).trans ?_)
  rw [wk_of]
  exact congrArg _ (Fin.ext (by simp only [co, laneOf]; omega))

/-- The result of the kernel. -/
def result (c : Dev nD) : S65536x12.Idx → EReal := fun x => (st m c 16).pos (x 0) (x 1)

/-- Every run of the kernel ends with the positions after the last step in its result, the arguments as they were. -/
theorem run_result (ρ : Dev nD → PrngReg) : θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  refine ⟨((h.1 c).2 main_v10 (by decide)).trans (funext fun x => ?_), h.2 c⟩
  exact (congrArg _ (eq_ix2 x)).trans (result_at m c (x 0) (x 1))

end Cert.KernelIdeal.Value
end
-- ==== Proof.RefRead.lean ====
/- One step of the reference, its first half: what it carries, the proposals, and the two densities, read at an index. -/
module

public import proofs.«01_k».proof.Proof.Step
public import proofs.«01_k».proof.Proof.Gen.ReferenceIdeal
public import proofs.«01_k».proof.Proof.Gen.ReferenceIdeal.Run
public import Idealize.ShloMosaic.Lib.Pointwise
public import Idealize.ShloMosaic.Lib.Tactic.CleanTypes
public import Idealize.ShloMosaic.Lib.IdealHost

@[expose] public section

set_option maxRecDepth 16384

noncomputable section

namespace Cert.ReferenceIdeal.Value

open Cert.ReferenceIdeal Cert.ReferenceIdeal.Gen Idealize.ShloMosaic Idealize.ShloMosaic.TcCoe Idealize.SL.Sem Cert.Sampler

/-- What the reference carries before step `k`, at the draws `Z` and `U`: the state `σ`. -/
structure Holds (Z : Fin 17 → Fin 262144 → Fin 3 → EReal) (U : Fin 16 → Wk → EReal) (V : Valuation τ sig (Elt Ideal)) (k : ℕ) (σ : State) :
    Prop where
  z : ∀ a q i, V (Proc.devRef .tc main_v9_0) (ix3 a q i) = Z a q i
  u : ∀ a w, V (Proc.devRef .tc main_v9_1) (ix2 a w) = U a w
  ctr : V (Proc.devRef .tc main_v9_3) = fun _ => BitVec.ofNat 32 k
  mean : ∀ i, V (Proc.devRef .tc main_v9_4) (ix1 i) = σ.mean i
  dev : ∀ i, V (Proc.devRef .tc main_v9_5) (ix1 i) = σ.dev i
  pos : ∀ w j, V (Proc.devRef .tc main_v9_6) (ix2 w j) = σ.pos w j

variable {Z : Fin 17 → Fin 262144 → Fin 3 → EReal} {U : Fin 16 → Wk → EReal} {V : Valuation τ sig (Elt Ideal)} {k : ℕ} {σ : State}

/-- The proposals. -/
theorem v30_at (h : Holds Z U V k σ) (hk : k < 16) (w : Wk) (j : Fin 12) :
    res_main_while0b_v30 V (ix2 w j) = prop σ.mean σ.dev (zOf Z (k + 1)) w j := by
  unfold res_main_while0b_v30 res_main_while0b_v12
  rw [h.ctr]
  clean_types
  pointwise
  rw [h.mean, h.dev, h.z]
  unfold prop zOf
  refine congrArg (fun y : EReal => σ.mean ⟨j.val % 3, by omega⟩ + σ.dev ⟨j.val % 3, by omega⟩ * y) ?_
  have e0 : ∀ (a a' : Fin 17) (q q' : Fin 262144) (i i' : Fin 3), a = a' → q = q' → i = i' → Z a q i = Z a' q' i' := by
    rintro a _ q _ i _ rfl rfl rfl
    rfl
  refine e0 _ _ _ _ _ _ (Fin.ext ?_) (Fin.ext ?_) (Fin.ext ?_)
  · interval_cases k <;> rfl
  · show 0 + (w.val * 4 + j.val / 3) = 4 * w.val + j.val / 3
    omega
  · show 0 + j.val % 3 = j.val % 3
    omega

/-- The proposals of step `k`. -/
abbrev px (Z : Fin 17 → Fin 262144 → Fin 3 → EReal) (k : ℕ) (σ : State) : Wk → Fin 12 → EReal := prop σ.mean σ.dev (zOf Z (k + 1))

/-- The target's density in each coordinate. -/
theorem v95_at (h : Holds Z U V k σ) (hk : k < 16) (w : Wk) (j : Fin 12) :
    res_main_while0b_v95 V (ix2 w j) = tgt (px Z k σ w j) := by
  unfold res_main_while0b_v95
  clean_types
  pointwise
  simp only [v30_at h hk]
  rw [two_bits]
  rfl

/-- The target's density. -/
theorem v130_at (h : Holds Z U V k σ) (hk : k < 16) (w : Wk) :
    res_main_while0b_v130 V (ix1 w) = fW (px Z k σ w) := by
  unfold res_main_while0b_v130
  clean_types
  pointwise
  simp only [v95_at h hk]
  rfl

/-- The proposal's density. -/
theorem v88_at (h : Holds Z U V k σ) (hk : k < 16) (w : Wk) :
    res_main_while0b_v88 V (ix1 w) = gW σ.mean σ.dev (px Z k σ w) := by
  unfold res_main_while0b_v88 res_main_while0b_v39 res_main_while0b_v58 res_main_while0b_v77 res_main_while0b_v37 res_main_while0b_v56 res_main_while0b_v75
  clean_types
  pointwise
  simp only [v30_at h hk, h.mean, h.dev]
  rw [two_bits]
  rfl

end Cert.ReferenceIdeal.Value
end
-- ==== Proof.RefStep.lean ====
/- One step of the reference, its second half: the gradients and what the step leaves, read at an index. -/
module

public import proofs.«01_k».proof.Proof.RefRead

@[expose] public section

set_option maxRecDepth 16384

noncomputable section

namespace Cert.ReferenceIdeal.Value

open Cert.ReferenceIdeal Cert.ReferenceIdeal.Gen Idealize.ShloMosaic Idealize.ShloMosaic.TcCoe Idealize.SL.Sem Cert.Sampler

variable {Z : Fin 17 → Fin 262144 → Fin 3 → EReal} {U : Fin 16 → Wk → EReal} {V : Valuation τ sig (Elt Ideal)} {k : ℕ} {σ : State}

/-! ## The distances and their exponentials -/

/-- The distance from the mean in the first direction. -/
theorem v156_at (h : Holds Z U V k σ) (hk : k < 16) (w : Wk) : res_main_while0b_v156 V (ix1 w) = px Z k σ w 0 - σ.mean 0 := by
  unfold res_main_while0b_v156
  clean_types
  pointwise
  simp only [v30_at h hk, h.mean]

/-- Its square, negated. -/
theorem v160_at (h : Holds Z U V k σ) (hk : k < 16) (w : Wk) :
    res_main_while0b_v160 V (ix1 w) = -((px Z k σ w 0 - σ.mean 0) * (px Z k σ w 0 - σ.mean 0)) := by
  unfold res_main_while0b_v160
  clean_types
  pointwise
  simp only [v156_at h hk]

/-- The exponential of the density in the first direction. -/
theorem v168_at (h : Holds Z U V k σ) (hk : k < 16) (w : Wk) :
    res_main_while0b_v168 V (ix1 w) = ev (σ.dev 0) (px Z k σ w 0 - σ.mean 0) := by
  unfold res_main_while0b_v168 res_main_while0b_v163 res_main_while0b_v154
  clean_types
  pointwise
  simp only [v160_at h hk, h.dev, two_bits]
  rfl

/-- The distance from the mean in the second direction. -/
theorem v182_at (h : Holds Z U V k σ) (hk : k < 16) (w : Wk) : res_main_while0b_v182 V (ix1 w) = px Z k σ w 1 - σ.mean 1 := by
  unfold res_main_while0b_v182
  clean_types
  pointwise
  simp only [v30_at h hk, h.mean]

/-- Its square, negated. -/
theorem v186_at (h : Holds Z U V k σ) (hk : k < 16) (w : Wk) :
    res_main_while0b_v186 V (ix1 w) = -((px Z k σ w 1 - σ.mean 1) * (px Z k σ w 1 - σ.mean 1)) := by
  unfold res_main_while0b_v186
  clean_types
  pointwise
  simp only [v182_at h hk]

/-- The exponential of the density in the second direction. -/
theorem v194_at (h : Holds Z U V k σ) (hk : k < 16) (w : Wk) :
    res_main_while0b_v194 V (ix1 w) = ev (σ.dev 1) (px Z k σ w 1 - σ.mean 1) := by
  unfold res_main_while0b_v194 res_main_while0b_v189 res_main_while0b_v180
  clean_types
  pointwise
  simp only [v186_at h hk, h.dev, two_bits]
  rfl

/-- The distance from the mean in the third direction. -/
theorem v208_at (h : Holds Z U V k σ) (hk : k < 16) (w : Wk) : res_main_while0b_v208 V (ix1 w) = px Z k σ w 2 - σ.mean 2 := by
  unfold res_main_while0b_v208
  clean_types
  pointwise
  simp only [v30_at h hk, h.mean]

/-- Its square, negated. -/
theorem v212_at (h : Holds Z U V k σ) (hk : k < 16) (w : Wk) :
    res_main_while0b_v212 V (ix1 w) = -((px Z k σ w 2 - σ.mean 2) * (px Z k σ w 2 - σ.mean 2)) := by
  unfold res_main_while0b_v212
  clean_types
  pointwise
  simp only [v208_at h hk]

/-- The exponential of the density in the third direction. -/
theorem v220_at (h : Holds Z U V k σ) (hk : k < 16) (w : Wk) :
    res_main_while0b_v220 V (ix1 w) = ev (σ.dev 2) (px Z k σ w 2 - σ.mean 2) := by
  unfold res_main_while0b_v220 res_main_while0b_v215 res_main_while0b_v206
  clean_types
  pointwise
  simp only [v212_at h hk, h.dev, two_bits]
  rfl

/-! ## The densities' product, factor by factor -/

/-- The density in the second direction. -/
theorem v197_at (h : Holds Z U V k σ) (hk : k < 16) (w : Wk) :
    res_main_while0b_v197 V (ix1 w) = dens (σ.dev 1) (px Z k σ w 1 - σ.mean 1) := by
  unfold res_main_while0b_v197 res_main_while0b_v195 res_main_while0b_v180
  clean_types
  pointwise
  simp only [v194_at h hk, h.dev]
  rfl

/-- The density in the third direction. -/
theorem v223_at (h : Holds Z U V k σ) (hk : k < 16) (w : Wk) :
    res_main_while0b_v223 V (ix1 w) = dens (σ.dev 2) (px Z k σ w 2 - σ.mean 2) := by
  unfold res_main_while0b_v223 res_main_while0b_v221 res_main_while0b_v206
  clean_types
  pointwise
  simp only [v220_at h hk, h.dev]
  rfl

/-- The density in the first direction. -/
theorem v174_at (h : Holds Z U V k σ) (hk : k < 16) (w : Wk) :
    res_main_while0b_v174 V (ix1 w) = dens (σ.dev 0) (px Z k σ w 0 - σ.mean 0) := by
  unfold res_main_while0b_v174 res_main_while0b_v148 res_main_while0b_v169 res_main_while0b_v154
  clean_types
  pointwise
  simp only [v168_at h hk, h.dev]
  rfl

/-- The product of the first two densities. -/
theorem v200_at (h : Holds Z U V k σ) (hk : k < 16) (w : Wk) :
    res_main_while0b_v200 V (ix1 w) = dens (σ.dev 0) (px Z k σ w 0 - σ.mean 0) * dens (σ.dev 1) (px Z k σ w 1 - σ.mean 1) := by
  unfold res_main_while0b_v200
  clean_types
  pointwise
  simp only [v174_at h hk, v197_at h hk]

/-- The loss gradient at a walker by the product of the densities. -/
theorem v235_at (h : Holds Z U V k σ) (hk : k < 16) (w : Wk) : res_main_while0b_v235 V (ix1 w) = cot σ.mean σ.dev (px Z k σ w) := by
  unfold res_main_while0b_v235 res_main_while0b_v227
  clean_types
  pointwise
  simp only [v200_at h hk, v223_at h hk, v130_at h hk, two_bits, walkers_bits]
  rfl

/-- The same by the product of the first two. -/
theorem v237_at (h : Holds Z U V k σ) (hk : k < 16) (w : Wk) :
    res_main_while0b_v237 V (ix1 w) = cot σ.mean σ.dev (px Z k σ w) * dens (σ.dev 2) (px Z k σ w 2 - σ.mean 2) := by
  unfold res_main_while0b_v237
  clean_types
  pointwise
  simp only [v235_at h hk, v223_at h hk]

/-- What reaches the density of the third direction. -/
theorem v236_at (h : Holds Z U V k σ) (hk : k < 16) (w : Wk) : res_main_while0b_v236 V (ix1 w) = others σ.mean σ.dev (px Z k σ w) 2 := by
  unfold res_main_while0b_v236
  clean_types
  pointwise
  simp only [v200_at h hk, v235_at h hk, others, EReal.coe_one, one_mul]

/-- What reaches the density of the second direction. -/
theorem v265_at (h : Holds Z U V k σ) (hk : k < 16) (w : Wk) : res_main_while0b_v265 V (ix1 w) = others σ.mean σ.dev (px Z k σ w) 1 := by
  unfold res_main_while0b_v265
  clean_types
  pointwise
  simp only [v174_at h hk, v237_at h hk, others, EReal.coe_one, one_mul]

/-- What reaches the density of the first direction. -/
theorem v296_at (h : Holds Z U V k σ) (hk : k < 16) (w : Wk) : res_main_while0b_v296 V (ix1 w) = others σ.mean σ.dev (px Z k σ w) 0 := by
  unfold res_main_while0b_v296 res_main_while0b_v148
  clean_types
  pointwise
  simp only [v237_at h hk, v197_at h hk, others, EReal.coe_one, one_mul]

/-- What reaches the exponential's argument in the third direction. -/
theorem v246_at (h : Holds Z U V k σ) (hk : k < 16) (w : Wk) :
    res_main_while0b_v246 V (ix1 w) = Ideal.div (others σ.mean σ.dev (px Z k σ w) 2) (cN * σ.dev 2) * ev (σ.dev 2) (px Z k σ w 2 - σ.mean 2) := by
  unfold res_main_while0b_v246 res_main_while0b_v221 res_main_while0b_v206
  clean_types
  pointwise
  simp only [v236_at h hk, v220_at h hk, h.dev]
  rfl

/-- What reaches the exponential's argument in the second direction. -/
theorem v275_at (h : Holds Z U V k σ) (hk : k < 16) (w : Wk) :
    res_main_while0b_v275 V (ix1 w) = Ideal.div (others σ.mean σ.dev (px Z k σ w) 1) (cN * σ.dev 1) * ev (σ.dev 1) (px Z k σ w 1 - σ.mean 1) := by
  unfold res_main_while0b_v275 res_main_while0b_v195 res_main_while0b_v180
  clean_types
  pointwise
  simp only [v265_at h hk, v194_at h hk, h.dev]
  rfl

/-- What reaches the exponential's argument in the first direction. -/
theorem v305_at (h : Holds Z U V k σ) (hk : k < 16) (w : Wk) :
    res_main_while0b_v305 V (ix1 w) = Ideal.div (others σ.mean σ.dev (px Z k σ w) 0) (cN * σ.dev 0) * ev (σ.dev 0) (px Z k σ w 0 - σ.mean 0) := by
  unfold res_main_while0b_v305 res_main_while0b_v169 res_main_while0b_v154
  clean_types
  pointwise
  simp only [v296_at h hk, v168_at h hk, h.dev]
  rfl

/-! ## The step -/

/-- The mean of the first direction after the step. -/
theorem step4_0 (h : Holds Z U V k σ) (hk : k < 16) (hs : ∀ i, σ.dev i ≠ 0) :
    step_main_v9_4 V (ix1 0) = nextMean σ.mean σ.dev (px Z k σ) 0 := by
  unfold nextMean
  rw [← refMean hs]
  unfold step_main_v9_4 res_main_while0b_v163 res_main_while0b_v154 res_main_while0b_v189 res_main_while0b_v180 res_main_while0b_v215 res_main_while0b_v206
  clean_types
  simp only [id_eq]
  pointwise
  simp only [v156_at h hk, v160_at h hk, v168_at h hk, v305_at h hk, v296_at h hk, v182_at h hk, v186_at h hk, v194_at h hk, v275_at h hk, v265_at h hk, v208_at h hk, v212_at h hk, v220_at h hk, v246_at h hk, v236_at h hk, h.mean, h.dev, two_bits]
  rfl

/-- The deviation of the first direction after the step. -/
theorem step5_0 (h : Holds Z U V k σ) (hk : k < 16) (hs : ∀ i, σ.dev i ≠ 0) :
    step_main_v9_5 V (ix1 0) = nextDev σ.mean σ.dev (px Z k σ) 0 := by
  unfold nextDev
  rw [← refDev hs]
  unfold step_main_v9_5 res_main_while0b_v163 res_main_while0b_v169 res_main_while0b_v154 res_main_while0b_v189 res_main_while0b_v195 res_main_while0b_v180 res_main_while0b_v215 res_main_while0b_v221 res_main_while0b_v206
  clean_types
  simp only [id_eq]
  pointwise
  simp only [v156_at h hk, v160_at h hk, v168_at h hk, v305_at h hk, v296_at h hk, v182_at h hk, v186_at h hk, v194_at h hk, v275_at h hk, v265_at h hk, v208_at h hk, v212_at h hk, v220_at h hk, v246_at h hk, v236_at h hk, h.mean, h.dev, two_bits]
  rw [EReal.coe_one]
  rfl

/-- The mean of the second direction after the step. -/
theorem step4_1 (h : Holds Z U V k σ) (hk : k < 16) (hs : ∀ i, σ.dev i ≠ 0) :
    step_main_v9_4 V (ix1 1) = nextMean σ.mean σ.dev (px Z k σ) 1 := by
  unfold nextMean
  rw [← refMean hs]
  unfold step_main_v9_4 res_main_while0b_v163 res_main_while0b_v154 res_main_while0b_v189 res_main_while0b_v180 res_main_while0b_v215 res_main_while0b_v206
  clean_types
  simp only [id_eq]
  pointwise
  simp only [v156_at h hk, v160_at h hk, v168_at h hk, v305_at h hk, v296_at h hk, v182_at h hk, v186_at h hk, v194_at h hk, v275_at h hk, v265_at h hk, v208_at h hk, v212_at h hk, v220_at h hk, v246_at h hk, v236_at h hk, h.mean, h.dev, two_bits]
  rfl

/-- The deviation of the second direction after the step. -/
theorem step5_1 (h : Holds Z U V k σ) (hk : k < 16) (hs : ∀ i, σ.dev i ≠ 0) :
    step_main_v9_5 V (ix1 1) = nextDev σ.mean σ.dev (px Z k σ) 1 := by
  unfold nextDev
  rw [← refDev hs]
  unfold step_main_v9_5 res_main_while0b_v163 res_main_while0b_v169 res_main_while0b_v154 res_main_while0b_v189 res_main_while0b_v195 res_main_while0b_v180 res_main_while0b_v215 res_main_while0b_v221 res_main_while0b_v206
  clean_types
  simp only [id_eq]
  pointwise
  simp only [v156_at h hk, v160_at h hk, v168_at h hk, v305_at h hk, v296_at h hk, v182_at h hk, v186_at h hk, v194_at h hk, v275_at h hk, v265_at h hk, v208_at h hk, v212_at h hk, v220_at h hk, v246_at h hk, v236_at h hk, h.mean, h.dev, two_bits]
  rw [EReal.coe_one]
  rfl

/-- The mean of the third direction after the step. -/
theorem step4_2 (h : Holds Z U V k σ) (hk : k < 16) (hs : ∀ i, σ.dev i ≠ 0) :
    step_main_v9_4 V (ix1 2) = nextMean σ.mean σ.dev (px Z k σ) 2 := by
  unfold nextMean
  rw [← refMean hs]
  unfold step_main_v9_4 res_main_while0b_v163 res_main_while0b_v154 res_main_while0b_v189 res_main_while0b_v180 res_main_while0b_v215 res_main_while0b_v206
  clean_types
  simp only [id_eq]
  pointwise
  simp only [v156_at h hk, v160_at h hk, v168_at h hk, v305_at h hk, v296_at h hk, v182_at h hk, v186_at h hk, v194_at h hk, v275_at h hk, v265_at h hk, v208_at h hk, v212_at h hk, v220_at h hk, v246_at h hk, v236_at h hk, h.mean, h.dev, two_bits]
  rfl

/-- The deviation of the third direction after the step. -/
theorem step5_2 (h : Holds Z U V k σ) (hk : k < 16) (hs : ∀ i, σ.dev i ≠ 0) :
    step_main_v9_5 V (ix1 2) = nextDev σ.mean σ.dev (px Z k σ) 2 := by
  unfold nextDev
  rw [← refDev hs]
  unfold step_main_v9_5 res_main_while0b_v163 res_main_while0b_v169 res_main_while0b_v154 res_main_while0b_v189 res_main_while0b_v195 res_main_while0b_v180 res_main_while0b_v215 res_main_while0b_v221 res_main_while0b_v206
  clean_types
  simp only [id_eq]
  pointwise
  simp only [v156_at h hk, v160_at h hk, v168_at h hk, v305_at h hk, v296_at h hk, v182_at h hk, v186_at h hk, v194_at h hk, v275_at h hk, v265_at h hk, v208_at h hk, v212_at h hk, v220_at h hk, v246_at h hk, v236_at h hk, h.mean, h.dev, two_bits]
  rw [EReal.coe_one]
  rfl

/-- A choice by a bit that states a proposition. -/
theorem ite_ofBool (p : Prop) [Decidable p] (x y : EReal) : (if BitVec.ofBool (decide p) = 1#1 then x else y) = if p then x else y := by
  by_cases h : p <;> simp [h]

/-- The positions after the step. -/
theorem step6 (h : Holds Z U V k σ) (hk : k < 16) (w : Wk) (j : Fin 12) :
    step_main_v9_6 V (ix2 w j) = nextPos σ.mean σ.dev (px Z k σ) (uOf U k) σ.pos w j := by
  unfold step_main_v9_6 res_main_while0b_v133
  rw [h.ctr]
  clean_types
  simp only [id_eq]
  pointwise
  simp only [v30_at h hk, v88_at h hk, v130_at h hk, h.pos]
  rw [h.u, negInf_bits]
  have e0 : ∀ (a a' : Fin 16) (q q' : Wk), a = a' → q = q' → U a q = U a' q' := by
    rintro a _ q _ rfl rfl
    rfl
  refine Eq.trans (congrArg (fun y : EReal => if gW σ.mean σ.dev (px Z k σ w) * y * ratio σ.mean σ.dev (px Z k σ) < fW (px Z k σ w)
    then px Z k σ w j else σ.pos w j) (e0 _ ⟨k % 16, by omega⟩ _ w (Fin.ext ?_) (Fin.ext ?_))) ?_
  · interval_cases k <;> rfl
  · show 0 + w.val = w.val
    omega
  · unfold nextPos accept
    exact (ite_ofBool _ _ _).symm

end Cert.ReferenceIdeal.Value
end
-- ==== Proof.RefResult.lean ====
/- The reference's run: its result is the positions of the sampler after the last step. -/
module

public import proofs.«01_k».proof.Proof.RefStep
public import Idealize.ShloMosaic.Lib.StableHlo.ReadAt

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo Idealize.SL.Sem Cert.Sampler

variable {Z : Fin 17 → Fin 262144 → Fin 3 → EReal} {U : Fin 16 → Wk → EReal} {V : Valuation τ sig (Elt Ideal)} {k : ℕ} {σ : State}

/-- One step of the reference is one step of the sampler. -/
theorem step_holds (h : Holds Z U V k σ) (hk : k < 16) (hs : ∀ i, σ.dev i ≠ 0) :
    Holds Z U (STEP V) (k + 1) (σ.next (zOf Z (k + 1)) (uOf U k)) where
  z := by rw [STEP_main_v9_0]; exact h.z
  u := by rw [STEP_main_v9_1]; exact h.u
  ctr := by
    rw [STEP_main_v9_3]
    unfold step_main_v9_3
    rw [h.ctr]
    funext x
    show BitVec.ofNat 32 k + 1#32 = BitVec.ofNat 32 (k + 1)
    rw [BitVec.ofNat_add]
  mean := by
    rw [STEP_main_v9_4]
    intro i
    fin_cases i
    · exact step4_0 h hk hs
    · exact step4_1 h hk hs
    · exact step4_2 h hk hs
  dev := by
    rw [STEP_main_v9_5]
    intro i
    fin_cases i
    · exact step5_0 h hk hs
    · exact step5_1 h hk hs
    · exact step5_2 h hk hs
  pos := by
    rw [STEP_main_v9_6]
    exact step6 h hk

variable (m : (ℓ : Loc nD τ sig) → Buf (Elt Ideal) ℓ)

/-- The arguments on core `c`. -/
def argMean (c : Dev nD) (i : Fin 3) : EReal := m ((c : Thread nD τ).loc main_arg0) (ix1 i)
/-- The first deviations. -/
def argDev (c : Dev nD) (i : Fin 3) : EReal := m ((c : Thread nD τ).loc main_arg1) (ix1 i)
/-- The normal draws. -/
def argZ (c : Dev nD) (k : Fin 17) (q : Fin 262144) (i : Fin 3) : EReal := m ((c : Thread nD τ).loc main_arg3) (ix3 k q i)
/-- The uniform draws. -/
def argU (c : Dev nD) (k : Fin 16) (w : Wk) : EReal := m ((c : Thread nD τ).loc main_arg4) (ix2 k w)

/-- The sampler's state after `k` steps on core `c`. -/
def st (c : Dev nD) (k : ℕ) : State := Sampler.run (argMean m c) (argDev m c) (zOf (argZ m c)) (uOf (argU m c)) k

/-- What the reference carries into its loop. -/
theorem entry_holds (c : Dev nD) : Holds (argZ m c) (argU m c) (entryContents preI m c) 0 (st m c 0) where
  z a q i := by
    simp only [entryContents, afterL_cons, afterL_nil]
    after_reads_at
    rfl
  u a w := by
    simp only [entryContents, afterL_cons, afterL_nil]
    after_reads_at
    rfl
  ctr := by
    simp only [entryContents, afterL_cons, afterL_nil]
    after_reads_simp
    rfl
  mean i := by
    simp only [entryContents, afterL_cons, afterL_nil]
    after_reads_at
    rfl
  dev i := by
    simp only [entryContents, afterL_cons, afterL_nil]
    after_reads_at
    rfl
  pos w j := by
    simp only [entryContents, afterL_cons, afterL_nil]
    after_reads_at
    have e : (⟨w.val * 4 + j.val / 3, by omega⟩ : Fin 262144) = ⟨4 * w.val + j.val / 3, by omega⟩ := Fin.ext (by simp only []; omega)
    exact congrArg (fun q => argMean m c ⟨j.val % 3, by omega⟩ + argDev m c ⟨j.val % 3, by omega⟩ * argZ m c 0 q ⟨j.val % 3, by omega⟩) e

/-- What the reference carries after `k` steps. -/
theorem iter_holds (c : Dev nD) (hs : ∀ i, argDev m c i ≠ 0) (k : ℕ) (hk : k ≤ 16) :
    Holds (argZ m c) (argU m c) (STEP^[k] (entryContents preI m c)) k (st m c k) := by
  induction k with
  | zero => exact entry_holds m c
  | succ k ih =>
    rw [Function.iterate_succ_apply']
    exact step_holds (ih (by omega)) (by omega) (run_dev_ne hs _ _ k)

/-- The positions after the loop, at a walker and a coordinate. -/
theorem result_at (c : Dev nD) (hs : ∀ i, argDev m c i ≠ 0) (w : Wk) (j : Fin 12) :
    (STEP^[16] (entryContents preI m c)) (Proc.devRef .tc main_v9_6) (ix2 w j) = (st m c 16).pos w j :=
  (iter_holds m c hs 16 le_rfl).pos w j

end Cert.ReferenceIdeal.Value
end
-- ==== Proof.Equation.lean ====
/- From equal arguments, with no zero among the deviations, the kernel and the reference end with equal results. -/
module

public import proofs.«01_k».proof.Defs
public import proofs.«01_k».proof.Proof.KernelResult
public import proofs.«01_k».proof.Proof.RefResult

@[expose] public section

noncomputable section

namespace Cert.Proof

open Idealize.ShloMosaic Idealize.SL.Sem Cert.Sampler

/-- A bit that states `x ≠ 0` and is one. -/
theorem ne_of_bit (x : EReal) (h : BitVec.ofBool (decide (x ≠ 0)) = 1#1) : x ≠ 0 := by
  intro h0
  simp [h0] at h

/-- The precondition's program answers only with ones: no deviation is zero. -/
theorem dev_ne [hKernelIdeal : Cert.KernelIdeal.Facts] [hPre : Cert.Pre_sigma_nonzero.Facts]
    (m : (ℓ : Loc Cert.KernelIdeal.nD Cert.KernelIdeal.τ Cert.KernelIdeal.sig) → Buf (Elt Ideal) ℓ)
    (h : Cert.Pre_KernelIdeal_sigma_nonzero m) (c : Dev Cert.KernelIdeal.nD) (i : Fin 3) : Cert.KernelIdeal.Value.argDev m c i ≠ 0 := by
  have e := congrFun (h c) (ix1 i)
  unfold Cert.Pre_sigma_nonzero.fn at e
  revert e
  clean_types
  pointwise
  exact ne_of_bit _

/-- The two programs carry the same state after every step. -/
theorem st_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (k : ℕ) : Cert.ReferenceIdeal.Value.st m' c k = Cert.KernelIdeal.Value.st m c k := by
  have e0 : Cert.ReferenceIdeal.Value.argMean m' c = Cert.KernelIdeal.Value.argMean m c := funext fun i => congrFun h0 (ix1 i)
  have e1 : Cert.ReferenceIdeal.Value.argDev m' c = Cert.KernelIdeal.Value.argDev m c := funext fun i => congrFun h1 (ix1 i)
  have e3 : Cert.ReferenceIdeal.Value.argZ m' c = Cert.KernelIdeal.Value.argZ m c := funext fun a => funext fun q => funext fun i => congrFun h3 (ix3 a q i)
  have e4 : Cert.ReferenceIdeal.Value.argU m' c = Cert.KernelIdeal.Value.argU m c := funext fun a => funext fun w => congrFun h4 (ix2 a w)
  unfold Cert.ReferenceIdeal.Value.st Cert.KernelIdeal.Value.st
  rw [e0, e1, e3, e4]

/-- The claim of the values: the kernel and the reference, from equal arguments with no zero deviation, end with equal results. -/
theorem algebraic [hPre : Cert.Pre_sigma_nonzero.Facts] : Cert.algebraic_KernelIdeal_ReferenceIdeal_pre_sigma_nonzero
    (hKernelIdeal := Cert.KernelIdeal.Gen.facts) (hReferenceIdeal := Cert.ReferenceIdeal.Gen.facts) := by
  letI := Cert.KernelIdeal.Gen.facts
  letI := Cert.ReferenceIdeal.Gen.facts
  intro m g m' g' hpre hagree
  refine ⟨Cert.KernelIdeal.Value.result m, Cert.KernelIdeal.Value.run_result m g, ?_⟩
  refine (θ_run Cert.ReferenceIdeal.defs _ _).mono (fun r h c => ?_) (Cert.ReferenceIdeal.Value.run (F := Ideal) m' g')
  obtain ⟨h0, h1, _, h3, h4⟩ := hagree c
  refine ⟨(h c).1.trans (funext fun x => ?_), (h c).2⟩
  have hs : ∀ i, Cert.ReferenceIdeal.Value.argDev m' c i ≠ 0 := fun i e =>
    dev_ne m hpre c i ((congrFun h1 (ix1 i)).symm.trans e)
  refine (congrArg _ (eq_ix2 x)).trans ((Cert.ReferenceIdeal.Value.result_at m' c hs (x 0) (x 1)).trans ?_)
  rw [st_eq m m' c h0 h1 h3 h4]
  rfl

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's run leaves its arguments as they were; it declares no semaphore, so every counter ends at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The precondition's program broadcasts a scalar to three places. -/
theorem facts_pre : Cert.Pre_sigma_nonzero.Facts := ⟨by decide⟩

/-- The claims, in the order in which they are stated. -/
theorem claim : Cert.Claim :=
  ⟨Cert.Kernel.Gen.facts, Cert.KernelIdeal.Gen.facts, Cert.ReferenceIdeal.Gen.facts, facts_pre,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial, algebraic (hPre := facts_pre)⟩

end Cert.Proof

end
